-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117_1) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v117_0) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x2112 : Shape := ⟨3, ![2, 8192, 2112]⟩
abbrev S2048 : Shape := ⟨1, ![2048]⟩
abbrev S2 : Shape := ⟨1, ![2]⟩
abbrev S32 : Shape := ⟨1, ![32]⟩
abbrev S_ : Shape := ⟨0, ![]⟩
abbrev S2x2112x8192 : Shape := ⟨3, ![2, 2112, 8192]⟩
abbrev S16x128 : Shape := ⟨2, ![16, 128]⟩
abbrev S32x1 : Shape := ⟨2, ![32, 1]⟩
abbrev S32x128 : Shape := ⟨2, ![32, 128]⟩
abbrev S2x2048x8192 : Shape := ⟨3, ![2, 2048, 8192]⟩
abbrev S2x64x8192 : Shape := ⟨3, ![2, 64, 8192]⟩
abbrev S2x8192x2048 : Shape := ⟨3, ![2, 8192, 2048]⟩
abbrev S2x16x8192 : Shape := ⟨3, ![2, 16, 8192]⟩
abbrev S1x2112x512 : Shape := ⟨3, ![1, 2112, 512]⟩
abbrev S1x2048x512 : Shape := ⟨3, ![1, 2048, 512]⟩
abbrev S1x64x512 : Shape := ⟨3, ![1, 64, 512]⟩
abbrev S1x512x2048 : Shape := ⟨3, ![1, 512, 2048]⟩
abbrev S1x16x512 : Shape := ⟨3, ![1, 16, 512]⟩
abbrev S2048x128 : Shape := ⟨2, ![2048, 128]⟩
abbrev S1x128 : Shape := ⟨2, ![1, 128]⟩
abbrev S128x128 : Shape := ⟨2, ![128, 128]⟩
abbrev S1 : Shape := ⟨1, ![1]⟩
abbrev S8x128 : Shape := ⟨2, ![8, 128]⟩
abbrev S1x128x128 : Shape := ⟨3, ![1, 128, 128]⟩
abbrev S16x8x128 : Shape := ⟨3, ![16, 8, 128]⟩
abbrev S128 : Shape := ⟨1, ![128]⟩
abbrev S1x1x128 : Shape := ⟨3, ![1, 1, 128]⟩
abbrev S64x128 : Shape := ⟨2, ![64, 128]⟩
abbrev S1x64x128 : Shape := ⟨3, ![1, 64, 128]⟩

abbrev nBuf : Space → Nat
  | .hbm => 18
  | .vmem => 15
  | .smem => 1
  | _ => 0

abbrev bufTy : (tb : Table) → Fin (tcTables nBuf tb) → BufTy
  | .hbm, ⟨0, _⟩ => ⟨S2x8192x2112, .bf16⟩
  | .hbm, ⟨1, _⟩ => ⟨S2048, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S2x2112x8192, .bf16⟩
  | .hbm, ⟨10, _⟩ => ⟨S16x128, .f32⟩
  | .hbm, ⟨11, _⟩ => ⟨S32x1, .f32⟩
  | .hbm, ⟨12, _⟩ => ⟨S32x128, .f32⟩
  | .hbm, ⟨13, _⟩ => ⟨S2x2048x8192, .fp8e4m3⟩
  | .hbm, ⟨14, _⟩ => ⟨S2x64x8192, .i8⟩
  | .hbm, ⟨15, _⟩ => ⟨S2x64x8192, .bf16⟩
  | .hbm, ⟨16, _⟩ => ⟨S2x8192x2048, .fp8e4m3⟩
  | .hbm, ⟨17, _⟩ => ⟨S2x16x8192, .f32⟩
  | .local _ .vmem, ⟨0, _⟩ => ⟨S1x2112x512, .bf16⟩
  | .local _ .vmem, ⟨1, _⟩ => ⟨S1x2112x512, .bf16⟩
  | .local _ .vmem, ⟨2, _⟩ => ⟨S16x128, .f32⟩
  | .local _ .vmem, ⟨3, _⟩ => ⟨S32x128, .f32⟩
  | .local _ .vmem, ⟨4, _⟩ => ⟨S1x2048x512, .fp8e4m3⟩
  | .local _ .vmem, ⟨5, _⟩ => ⟨S1x2048x512, .fp8e4m3⟩
  | .local _ .vmem, ⟨6, _⟩ => ⟨S1x64x512, .i8⟩
  | .local _ .vmem, ⟨7, _⟩ => ⟨S1x64x512, .i8⟩
  | .local _ .vmem, ⟨8, _⟩ => ⟨S1x64x512, .bf16⟩
  | .local _ .vmem, ⟨9, _⟩ => ⟨S1x64x512, .bf16⟩
  | .local _ .vmem, ⟨10, _⟩ => ⟨S1x512x2048, .fp8e4m3⟩
  | .local _ .vmem, ⟨11, _⟩ => ⟨S1x512x2048, .fp8e4m3⟩
  | .local _ .vmem, ⟨12, _⟩ => ⟨S1x16x512, .f32⟩
  | .local _ .vmem, ⟨13, _⟩ => ⟨S1x16x512, .f32⟩
  | .local _ .vmem, ⟨14, _⟩ => ⟨S2048x128, .f32⟩
  | .local _ .smem, ⟨0, _⟩ => ⟨S2, .i32⟩
  | _, _ => ⟨S2x8192x2112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v9_4 : Ref sig .tc := ⟨.hbm, 17, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v5 : Index := Scalar.indexCast arg0
  ![v5.toNat]
@[reducible] def k0_t1_loop : Scf.Loop 32 :=
  let c0_i32_2 : BitVec 32 := 0#32
  let c4_i32 : BitVec 32 := 4#32
  let v7 : BitVec 32 := Scalar.addi c0_i32_2 c4_i32
  let c1_i32 : BitVec 32 := 1#32
  ⟨c0_i32_2, v7, c1_i32⟩
def k0_mult1 (k0_t1 : Fin k0_t1_loop.trips) : BitVec 32 :=
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  v10
def k0_off2 (k0_t1 : Fin k0_t1_loop.trips) : Fin 3 → Nat :=
  let c0 : Index := 0#32
  let c0_6 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v13 : Index := Scalar.indexCast v11
  ![0, 0, v13.toNat]
def k0_off3 (k0_t1 : Fin k0_t1_loop.trips) : Fin 3 → Nat :=
  let c0_8 : Index := 0#32
  let c128 : Index := 128#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v21 : Index := Scalar.indexCast v11
  ![0, 128, v21.toNat]
def k0_off4 (k0_t1 : Fin k0_t1_loop.trips) : Fin 3 → Nat :=
  let c0_10 : Index := 0#32
  let c256 : Index := 256#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v29 : Index := Scalar.indexCast v11
  ![0, 256, v29.toNat]
def k0_off5 (k0_t1 : Fin k0_t1_loop.trips) : Fin 3 → Nat :=
  let c0_12 : Index := 0#32
  let c384 : Index := 384#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v37 : Index := Scalar.indexCast v11
  ![0, 384, v37.toNat]
def k0_off6 (k0_t1 : Fin k0_t1_loop.trips) : Fin 3 → Nat :=
  let c0_14 : Index := 0#32
  let c512 : Index := 512#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v45 : Index := Scalar.indexCast v11
  ![0, 512, v45.toNat]
def k0_off7 (k0_t1 : Fin k0_t1_loop.trips) : Fin 3 → Nat :=
  let c0_16 : Index := 0#32
  let c640 : Index := 640#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v53 : Index := Scalar.indexCast v11
  ![0, 640, v53.toNat]
def k0_off8 (k0_t1 : Fin k0_t1_loop.trips) : Fin 3 → Nat :=
  let c0_18 : Index := 0#32
  let c768 : Index := 768#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v61 : Index := Scalar.indexCast v11
  ![0, 768, v61.toNat]
def k0_off9 (k0_t1 : Fin k0_t1_loop.trips) : Fin 3 → Nat :=
  let c0_20 : Index := 0#32
  let c896 : Index := 896#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v69 : Index := Scalar.indexCast v11
  ![0, 896, v69.toNat]
def k0_off10 (k0_t1 : Fin k0_t1_loop.trips) : Fin 3 → Nat :=
  let c0_22 : Index := 0#32
  let c1024 : Index := 1024#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v77 : Index := Scalar.indexCast v11
  ![0, 1024, v77.toNat]
def k0_off11 (k0_t1 : Fin k0_t1_loop.trips) : Fin 3 → Nat :=
  let c0_24 : Index := 0#32
  let c1152 : Index := 1152#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v85 : Index := Scalar.indexCast v11
  ![0, 1152, v85.toNat]
def k0_off12 (k0_t1 : Fin k0_t1_loop.trips) : Fin 3 → Nat :=
  let c0_26 : Index := 0#32
  let c1280 : Index := 1280#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v93 : Index := Scalar.indexCast v11
  ![0, 1280, v93.toNat]
def k0_off13 (k0_t1 : Fin k0_t1_loop.trips) : Fin 3 → Nat :=
  let c0_28 : Index := 0#32
  let c1408 : Index := 1408#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v101 : Index := Scalar.indexCast v11
  ![0, 1408, v101.toNat]
def k0_off14 (k0_t1 : Fin k0_t1_loop.trips) : Fin 3 → Nat :=
  let c0_30 : Index := 0#32
  let c1536 : Index := 1536#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v109 : Index := Scalar.indexCast v11
  ![0, 1536, v109.toNat]
def k0_off15 (k0_t1 : Fin k0_t1_loop.trips) : Fin 3 → Nat :=
  let c0_32 : Index := 0#32
  let c1664 : Index := 1664#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v117 : Index := Scalar.indexCast v11
  ![0, 1664, v117.toNat]
def k0_off16 (k0_t1 : Fin k0_t1_loop.trips) : Fin 3 → Nat :=
  let c0_34 : Index := 0#32
  let c1792 : Index := 1792#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v125 : Index := Scalar.indexCast v11
  ![0, 1792, v125.toNat]
def k0_off17 (k0_t1 : Fin k0_t1_loop.trips) : Fin 3 → Nat :=
  let c0_36 : Index := 0#32
  let c1920 : Index := 1920#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v133 : Index := Scalar.indexCast v11
  ![0, 1920, v133.toNat]
def k0_off18 (k0_t1 : Fin k0_t1_loop.trips) : Fin 3 → Nat :=
  let c0_56 : Index := 0#32
  let c0_57 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v230 : Index := Scalar.indexCast v11
  ![0, 0, v230.toNat]
def k0_off19 (k0_t1 : Fin k0_t1_loop.trips) : Fin 3 → Nat :=
  let c0_58 : Index := 0#32
  let c0_59 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v234 : Index := Scalar.indexCast v11
  ![0, 0, v234.toNat]
def k0_off20 (k0_t1 : Fin k0_t1_loop.trips) : Fin 3 → Nat :=
  let c0_60 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v241 : Index := Scalar.indexCast v11
  let c0_61 : Index := 0#32
  ![0, v241.toNat, 0]
def k0_off21 (k0_t1 : Fin k0_t1_loop.trips) : Fin 3 → Nat :=
  let c0_88 : Index := 0#32
  let c1 : Index := 1#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v327 : Index := Scalar.indexCast v11
  ![0, 1, v327.toNat]
def k0_off22 (k0_t1 : Fin k0_t1_loop.trips) : Fin 3 → Nat :=
  let c0_89 : Index := 0#32
  let c128_90 : Index := 128#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v331 : Index := Scalar.indexCast v11
  ![0, 128, v331.toNat]
def k0_off23 (k0_t1 : Fin k0_t1_loop.trips) : Fin 3 → Nat :=
  let c0_91 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v338 : Index := Scalar.indexCast v11
  let c128_92 : Index := 128#32
  ![0, v338.toNat, 128]
def k0_off24 (k0_t1 : Fin k0_t1_loop.trips) : Fin 3 → Nat :=
  let c0_119 : Index := 0#32
  let c2 : Index := 2#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v424 : Index := Scalar.indexCast v11
  ![0, 2, v424.toNat]
def k0_off25 (k0_t1 : Fin k0_t1_loop.trips) : Fin 3 → Nat :=
  let c0_120 : Index := 0#32
  let c256_121 : Index := 256#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v428 : Index := Scalar.indexCast v11
  ![0, 256, v428.toNat]
def k0_off26 (k0_t1 : Fin k0_t1_loop.trips) : Fin 3 → Nat :=
  let c0_122 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v435 : Index := Scalar.indexCast v11
  let c256_123 : Index := 256#32
  ![0, v435.toNat, 256]
def k0_off27 (k0_t1 : Fin k0_t1_loop.trips) : Fin 3 → Nat :=
  let c0_150 : Index := 0#32
  let c3 : Index := 3#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v521 : Index := Scalar.indexCast v11
  ![0, 3, v521.toNat]
def k0_off28 (k0_t1 : Fin k0_t1_loop.trips) : Fin 3 → Nat :=
  let c0_151 : Index := 0#32
  let c384_152 : Index := 384#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v525 : Index := Scalar.indexCast v11
  ![0, 384, v525.toNat]
def k0_off29 (k0_t1 : Fin k0_t1_loop.trips) : Fin 3 → Nat :=
  let c0_153 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v532 : Index := Scalar.indexCast v11
  let c384_154 : Index := 384#32
  ![0, v532.toNat, 384]
def k0_off30 (k0_t1 : Fin k0_t1_loop.trips) : Fin 3 → Nat :=
  let c0_181 : Index := 0#32
  let c4 : Index := 4#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v618 : Index := Scalar.indexCast v11
  ![0, 4, v618.toNat]
def k0_off31 (k0_t1 : Fin k0_t1_loop.trips) : Fin 3 → Nat :=
  let c0_182 : Index := 0#32
  let c512_183 : Index := 512#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v622 : Index := Scalar.indexCast v11
  ![0, 512, v622.toNat]
def k0_off32 (k0_t1 : Fin k0_t1_loop.trips) : Fin 3 → Nat :=
  let c0_184 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v629 : Index := Scalar.indexCast v11
  let c512_185 : Index := 512#32
  ![0, v629.toNat, 512]
def k0_off33 (k0_t1 : Fin k0_t1_loop.trips) : Fin 3 → Nat :=
  let c0_212 : Index := 0#32
  let c5 : Index := 5#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v715 : Index := Scalar.indexCast v11
  ![0, 5, v715.toNat]
def k0_off34 (k0_t1 : Fin k0_t1_loop.trips) : Fin 3 → Nat :=
  let c0_213 : Index := 0#32
  let c640_214 : Index := 640#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v719 : Index := Scalar.indexCast v11
  ![0, 640, v719.toNat]
def k0_off35 (k0_t1 : Fin k0_t1_loop.trips) : Fin 3 → Nat :=
  let c0_215 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v726 : Index := Scalar.indexCast v11
  let c640_216 : Index := 640#32
  ![0, v726.toNat, 640]
def k0_off36 (k0_t1 : Fin k0_t1_loop.trips) : Fin 3 → Nat :=
  let c0_243 : Index := 0#32
  let c6 : Index := 6#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v812 : Index := Scalar.indexCast v11
  ![0, 6, v812.toNat]
def k0_off37 (k0_t1 : Fin k0_t1_loop.trips) : Fin 3 → Nat :=
  let c0_244 : Index := 0#32
  let c768_245 : Index := 768#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v816 : Index := Scalar.indexCast v11
  ![0, 768, v816.toNat]
def k0_off38 (k0_t1 : Fin k0_t1_loop.trips) : Fin 3 → Nat :=
  let c0_246 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v823 : Index := Scalar.indexCast v11
  let c768_247 : Index := 768#32
  ![0, v823.toNat, 768]
def k0_off39 (k0_t1 : Fin k0_t1_loop.trips) : Fin 3 → Nat :=
  let c0_274 : Index := 0#32
  let c7 : Index := 7#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v909 : Index := Scalar.indexCast v11
  ![0, 7, v909.toNat]
def k0_off40 (k0_t1 : Fin k0_t1_loop.trips) : Fin 3 → Nat :=
  let c0_275 : Index := 0#32
  let c896_276 : Index := 896#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v913 : Index := Scalar.indexCast v11
  ![0, 896, v913.toNat]
def k0_off41 (k0_t1 : Fin k0_t1_loop.trips) : Fin 3 → Nat :=
  let c0_277 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v920 : Index := Scalar.indexCast v11
  let c896_278 : Index := 896#32
  ![0, v920.toNat, 896]
def k0_off42 (k0_t1 : Fin k0_t1_loop.trips) : Fin 3 → Nat :=
  let c0_305 : Index := 0#32
  let c8 : Index := 8#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1006 : Index := Scalar.indexCast v11
  ![0, 8, v1006.toNat]
def k0_off43 (k0_t1 : Fin k0_t1_loop.trips) : Fin 3 → Nat :=
  let c0_306 : Index := 0#32
  let c1024_307 : Index := 1024#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1010 : Index := Scalar.indexCast v11
  ![0, 1024, v1010.toNat]
def k0_off44 (k0_t1 : Fin k0_t1_loop.trips) : Fin 3 → Nat :=
  let c0_308 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1017 : Index := Scalar.indexCast v11
  let c1024_309 : Index := 1024#32
  ![0, v1017.toNat, 1024]
def k0_off45 (k0_t1 : Fin k0_t1_loop.trips) : Fin 3 → Nat :=
  let c0_336 : Index := 0#32
  let c9 : Index := 9#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1103 : Index := Scalar.indexCast v11
  ![0, 9, v1103.toNat]
def k0_off46 (k0_t1 : Fin k0_t1_loop.trips) : Fin 3 → Nat :=
  let c0_337 : Index := 0#32
  let c1152_338 : Index := 1152#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1107 : Index := Scalar.indexCast v11
  ![0, 1152, v1107.toNat]
def k0_off47 (k0_t1 : Fin k0_t1_loop.trips) : Fin 3 → Nat :=
  let c0_339 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1114 : Index := Scalar.indexCast v11
  let c1152_340 : Index := 1152#32
  ![0, v1114.toNat, 1152]
def k0_off48 (k0_t1 : Fin k0_t1_loop.trips) : Fin 3 → Nat :=
  let c0_367 : Index := 0#32
  let c10 : Index := 10#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1200 : Index := Scalar.indexCast v11
  ![0, 10, v1200.toNat]
def k0_off49 (k0_t1 : Fin k0_t1_loop.trips) : Fin 3 → Nat :=
  let c0_368 : Index := 0#32
  let c1280_369 : Index := 1280#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1204 : Index := Scalar.indexCast v11
  ![0, 1280, v1204.toNat]
def k0_off50 (k0_t1 : Fin k0_t1_loop.trips) : Fin 3 → Nat :=
  let c0_370 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1211 : Index := Scalar.indexCast v11
  let c1280_371 : Index := 1280#32
  ![0, v1211.toNat, 1280]
def k0_off51 (k0_t1 : Fin k0_t1_loop.trips) : Fin 3 → Nat :=
  let c0_398 : Index := 0#32
  let c11 : Index := 11#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1297 : Index := Scalar.indexCast v11
  ![0, 11, v1297.toNat]
def k0_off52 (k0_t1 : Fin k0_t1_loop.trips) : Fin 3 → Nat :=
  let c0_399 : Index := 0#32
  let c1408_400 : Index := 1408#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1301 : Index := Scalar.indexCast v11
  ![0, 1408, v1301.toNat]
def k0_off53 (k0_t1 : Fin k0_t1_loop.trips) : Fin 3 → Nat :=
  let c0_401 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1308 : Index := Scalar.indexCast v11
  let c1408_402 : Index := 1408#32
  ![0, v1308.toNat, 1408]
def k0_off54 (k0_t1 : Fin k0_t1_loop.trips) : Fin 3 → Nat :=
  let c0_429 : Index := 0#32
  let c12 : Index := 12#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1394 : Index := Scalar.indexCast v11
  ![0, 12, v1394.toNat]
def k0_off55 (k0_t1 : Fin k0_t1_loop.trips) : Fin 3 → Nat :=
  let c0_430 : Index := 0#32
  let c1536_431 : Index := 1536#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1398 : Index := Scalar.indexCast v11
  ![0, 1536, v1398.toNat]
def k0_off56 (k0_t1 : Fin k0_t1_loop.trips) : Fin 3 → Nat :=
  let c0_432 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1405 : Index := Scalar.indexCast v11
  let c1536_433 : Index := 1536#32
  ![0, v1405.toNat, 1536]
def k0_off57 (k0_t1 : Fin k0_t1_loop.trips) : Fin 3 → Nat :=
  let c0_460 : Index := 0#32
  let c13 : Index := 13#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1491 : Index := Scalar.indexCast v11
  ![0, 13, v1491.toNat]
def k0_off58 (k0_t1 : Fin k0_t1_loop.trips) : Fin 3 → Nat :=
  let c0_461 : Index := 0#32
  let c1664_462 : Index := 1664#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1495 : Index := Scalar.indexCast v11
  ![0, 1664, v1495.toNat]
def k0_off59 (k0_t1 : Fin k0_t1_loop.trips) : Fin 3 → Nat :=
  let c0_463 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1502 : Index := Scalar.indexCast v11
  let c1664_464 : Index := 1664#32
  ![0, v1502.toNat, 1664]
def k0_off60 (k0_t1 : Fin k0_t1_loop.trips) : Fin 3 → Nat :=
  let c0_491 : Index := 0#32
  let c14 : Index := 14#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1588 : Index := Scalar.indexCast v11
  ![0, 14, v1588.toNat]
def k0_off61 (k0_t1 : Fin k0_t1_loop.trips) : Fin 3 → Nat :=
  let c0_492 : Index := 0#32
  let c1792_493 : Index := 1792#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1592 : Index := Scalar.indexCast v11
  ![0, 1792, v1592.toNat]
def k0_off62 (k0_t1 : Fin k0_t1_loop.trips) : Fin 3 → Nat :=
  let c0_494 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1599 : Index := Scalar.indexCast v11
  let c1792_495 : Index := 1792#32
  ![0, v1599.toNat, 1792]
def k0_off63 (k0_t1 : Fin k0_t1_loop.trips) : Fin 3 → Nat :=
  let c0_522 : Index := 0#32
  let c15 : Index := 15#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1685 : Index := Scalar.indexCast v11
  ![0, 15, v1685.toNat]
def k0_off64 (k0_t1 : Fin k0_t1_loop.trips) : Fin 3 → Nat :=
  let c0_523 : Index := 0#32
  let c1920_524 : Index := 1920#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1689 : Index := Scalar.indexCast v11
  ![0, 1920, v1689.toNat]
def k0_off65 (k0_t1 : Fin k0_t1_loop.trips) : Fin 3 → Nat :=
  let c0_525 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1696 : Index := Scalar.indexCast v11
  let c1920_526 : Index := 1920#32
  ![0, v1696.toNat, 1920]
def k0_off66 (k0_t1 : Fin k0_t1_loop.trips) : Fin 3 → Nat :=
  let c0_527 : Index := 0#32
  let c0_528 : Index := 0#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1702 : Index := Scalar.indexCast v11
  ![0, 0, v1702.toNat]
def k0_off67 (k0_t1 : Fin k0_t1_loop.trips) : Fin 3 → Nat :=
  let c0_532 : Index := 0#32
  let c2048 : Index := 2048#32
  let c0_i32_5 : BitVec 32 := 0#32
  let c0_i32_2 : BitVec 32 := 0#32
  let c1_i32 : BitVec 32 := 1#32
  let arg12 : BitVec 32 := Scf.iv c0_i32_2 c1_i32 k0_t1
  let c1_i32_4 : BitVec 32 := 1#32
  let v8 : BitVec 32 := Scalar.muli arg12 c1_i32_4
  let v9 : BitVec 32 := Scalar.addi c0_i32_5 v8
  let c128_i32 : BitVec 32 := 128#32
  let v10 : BitVec 32 := Scalar.muli v9 c128_i32
  let v11 : BitVec 32 := v10
  let v1719 : Index := Scalar.indexCast v11
  ![0, 2048, v1719.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2112x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x8192x2112 : Shape := ⟨3, ![2, 8192, 2112]⟩
abbrev S2048 : Shape := ⟨1, ![2048]⟩
abbrev S2 : Shape := ⟨1, ![2]⟩
abbrev S2x8192x2048 : Shape := ⟨3, ![2, 8192, 2048]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x16x128 : Shape := ⟨4, ![2, 8192, 16, 128]⟩
abbrev S2x8192x16 : Shape := ⟨3, ![2, 8192, 16]⟩
abbrev S252 : Shape := ⟨1, ![252]⟩
abbrev S2x8192x16x1 : Shape := ⟨4, ![2, 8192, 16, 1]⟩
abbrev S1x1x1x252 : Shape := ⟨4, ![1, 1, 1, 252]⟩
abbrev S2x8192x16x252 : Shape := ⟨4, ![2, 8192, 16, 252]⟩
abbrev S2x8192x16x4 : Shape := ⟨4, ![2, 8192, 16, 4]⟩
abbrev S32 : Shape := ⟨1, ![32]⟩
abbrev S2x1 : Shape := ⟨2, ![2, 1]⟩
abbrev S8192 : Shape := ⟨1, ![8192]⟩
abbrev S1x8192 : Shape := ⟨2, ![1, 8192]⟩
abbrev S1x1x32 : Shape := ⟨3, ![1, 1, 32]⟩
abbrev S2x8192x32 : Shape := ⟨3, ![2, 8192, 32]⟩
abbrev S2x2048x8192 : Shape := ⟨3, ![2, 2048, 8192]⟩
abbrev S2x64x8192 : Shape := ⟨3, ![2, 64, 8192]⟩
abbrev S2x16x8192 : Shape := ⟨3, ![2, 16, 8192]⟩

abbrev nBuf : Space → Nat
  | .hbm => 157
  | .vmem => 4
  | .smem => 0
  | _ => 0

abbrev hbmTy0_0 (i : Nat) : BufTy := match i % 128 with
  | 0 => ⟨S2x8192x2112, .bf16⟩
  | 1 => ⟨S2048, .f32⟩
  | 2 => ⟨S2, .i32⟩
  | 3 => ⟨S2x8192x2048, .bf16⟩
  | 4 => ⟨S2x8192x2048, .f32⟩
  | 5 => ⟨S2x8192x64, .bf16⟩
  | 6 => ⟨S2x8192x64, .f32⟩
  | 7 => ⟨S2x8192x2048, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x2048, .f32⟩
  | 19 => ⟨S2x8192x2048, .f32⟩
  | 20 => ⟨S1x1x2048, .f32⟩
  | 21 => ⟨S2x8192x2048, .f32⟩
  | 22 => ⟨S2x8192x2048, .f32⟩
  | 23 => ⟨S2x8192x16x128, .f32⟩
  | 24 => ⟨S2x8192x16x128, .f32⟩
  | 25 => ⟨S_, .f32⟩
  | 26 => ⟨S2x8192x16, .f32⟩
  | 27 => ⟨S_, .f32⟩
  | 28 => ⟨S2x8192x16, .f32⟩
  | 29 => ⟨S2x8192x16, .f32⟩
  | 30 => ⟨S252, .i32⟩
  | 31 => ⟨S_, .i32⟩
  | 32 => ⟨S252, .i32⟩
  | 33 => ⟨S252, .i32⟩
  | 34 => ⟨S252, .f32⟩
  | 35 => ⟨S_, .f32⟩
  | 36 => ⟨S252, .f32⟩
  | 37 => ⟨S252, .f32⟩
  | 38 => ⟨S2x8192x16x1, .f32⟩
  | 39 => ⟨S1x1x1x252, .f32⟩
  | 40 => ⟨S2x8192x16x252, .f32⟩
  | 41 => ⟨S2x8192x16x252, .f32⟩
  | 42 => ⟨S2x8192x16x252, .i1⟩
  | 43 => ⟨S2x8192x16x252, .i32⟩
  | 44 => ⟨S_, .i32⟩
  | 45 => ⟨S2x8192x16, .i32⟩
  | 46 => ⟨S_, .i32⟩
  | 47 => ⟨S2x8192x16, .i32⟩
  | 48 => ⟨S2x8192x16, .i1⟩
  | 49 => ⟨S_, .f32⟩
  | 50 => ⟨S2x8192x16, .f32⟩
  | 51 => ⟨S2x8192x16, .i1⟩
  | 52 => ⟨S2x8192x16, .i1⟩
  | 53 => ⟨S_, .i32⟩
  | 54 => ⟨S2x8192x16, .i32⟩
  | 55 => ⟨S2x8192x16, .i32⟩
  | 56 => ⟨S_, .i32⟩
  | 57 => ⟨S_, .i32⟩
  | 58 => ⟨S2x8192x16, .i32⟩
  | 59 => ⟨S2x8192x16, .i32⟩
  | 60 => ⟨S2x8192x16, .f32⟩
  | 61 => ⟨S_, .f32⟩
  | 62 => ⟨S2x8192x16, .f32⟩
  | 63 => ⟨S2x8192x16, .f32⟩
  | 64 => ⟨S2x8192x16, .i32⟩
  | 65 => ⟨S2x8192x16, .f32⟩
  | 66 => ⟨S_, .f32⟩
  | 67 => ⟨S2x8192x16, .f32⟩
  | 68 => ⟨S2x8192x16, .f32⟩
  | 69 => ⟨S2x8192x16, .bf16⟩
  | 70 => ⟨S2x8192x16, .f32⟩
  | 71 => ⟨S2x8192x16x1, .f32⟩
  | 72 => ⟨S2x8192x16x128, .f32⟩
  | 73 => ⟨S2x8192x16x128, .f32⟩
  | 74 => ⟨S_, .f32⟩
  | 75 => ⟨S_, .f32⟩
  | 76 => ⟨S_, .f32⟩
  | 77 => ⟨S2x8192x16x128, .f32⟩
  | 78 => ⟨S2x8192x16x128, .f32⟩
  | 79 => ⟨S_, .f32⟩
  | 80 => ⟨S2x8192x16x128, .f32⟩
  | 81 => ⟨S2x8192x16x128, .f32⟩
  | 82 => ⟨S2x8192x2048, .f32⟩
  | 83 => ⟨S_, .i32⟩
  | 84 => ⟨S2x8192x16, .i32⟩
  | 85 => ⟨S2x8192x16, .i32⟩
  | 86 => ⟨S_, .i32⟩
  | 87 => ⟨S2x8192x16, .i32⟩
  | 88 => ⟨S2x8192x16, .i32⟩
  | 89 => ⟨S_, .i32⟩
  | 90 => ⟨S2x8192x16, .i32⟩
  | 91 => ⟨S2x8192x16, .i32⟩
  | 92 => ⟨S_, .i32⟩
  | 93 => ⟨S2x8192x16, .i32⟩
  | 94 => ⟨S2x8192x16, .i32⟩
  | 95 => ⟨S_, .i32⟩
  | 96 => ⟨S2x8192x16, .i32⟩
  | 97 => ⟨S2x8192x16, .i32⟩
  | 98 => ⟨S_, .i32⟩
  | 99 => ⟨S2x8192x16, .i32⟩
  | 100 => ⟨S2x8192x16, .i32⟩
  | 101 => ⟨S_, .i32⟩
  | 102 => ⟨S2x8192x16, .i32⟩
  | 103 => ⟨S2x8192x16, .i32⟩
  | 104 => ⟨S_, .i32⟩
  | 105 => ⟨S2x8192x16, .i32⟩
  | 106 => ⟨S2x8192x16, .i32⟩
  | 107 => ⟨S_, .i32⟩
  | 108 => ⟨S2x8192x16, .i32⟩
  | 109 => ⟨S2x8192x16, .i32⟩
  | 110 => ⟨S_, .i32⟩
  | 111 => ⟨S2x8192x16, .i32⟩
  | 112 => ⟨S2x8192x16, .i32⟩
  | 113 => ⟨S2x8192x16x1, .i32⟩
  | 114 => ⟨S2x8192x16x1, .i32⟩
  | 115 => ⟨S2x8192x16x1, .i32⟩
  | 116 => ⟨S2x8192x16x1, .i32⟩
  | 117 => ⟨S2x8192x16x4, .i32⟩
  | 118 => ⟨S2x8192x64, .i32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S2x1, .i32⟩
  | 127 => ⟨S8192, .i32⟩
  | _ => ⟨S2x8192x2112, .bf16⟩

abbrev hbmTy0_1 (i : Nat) : BufTy := match i % 128 with
  | 0 => ⟨S1x8192, .i32⟩
  | 1 => ⟨S2x8192, .i32⟩
  | 2 => ⟨S2x8192, .i32⟩
  | 3 => ⟨S2x8192, .i32⟩
  | 4 => ⟨S2x8192, .f32⟩
  | 5 => ⟨S2x8192x1, .f32⟩
  | 6 => ⟨S1x1x32, .f32⟩
  | 7 => ⟨S2x8192x32, .f32⟩
  | 8 => ⟨S2x8192x32, .f32⟩
  | 9 => ⟨S2x8192x32, .f32⟩
  | 10 => ⟨S2x8192x32, .f32⟩
  | 11 => ⟨S2x8192x32, .f32⟩
  | 12 => ⟨S2x8192x32, .f32⟩
  | 13 => ⟨S2x8192x32, .f32⟩
  | 14 => ⟨S2x8192x32, .f32⟩
  | 15 => ⟨S2x8192x32, .f32⟩
  | 16 => ⟨S2x8192x32, .f32⟩
  | 17 => ⟨S2x8192x32, .f32⟩
  | 18 => ⟨S2x8192x32, .f32⟩
  | 19 => ⟨S2x8192x32, .f32⟩
  | 20 => ⟨S2x8192x64, .f32⟩
  | 21 => ⟨S2x8192x64, .bf16⟩
  | 22 => ⟨S2x2048x8192, .f32⟩
  | 23 => ⟨S2x8192x64, .i8⟩
  | 24 => ⟨S2x64x8192, .i8⟩
  | 25 => ⟨S2x64x8192, .bf16⟩
  | 26 => ⟨S2x16x8192, .f32⟩
  | 27 => ⟨S2x8192x2048, .fp8e4m3⟩
  | 28 => ⟨S2x2048x8192, .fp8e4m3⟩
  | _ => ⟨S2x8192x2112, .bf16⟩

abbrev hbmTy (i : Nat) : BufTy := match i / 128 with
  | 0 => hbmTy0_0 i
  | 1 => hbmTy0_1 i
  | _ => ⟨S2x8192x2112, .bf16⟩

abbrev bufTy : (tb : Table) → Fin (tcTables nBuf tb) → BufTy
  | .hbm, ⟨i, _⟩ => hbmTy i
  | .local _ .vmem, ⟨0, _⟩ => ⟨S2x8192x2048, .f32⟩
  | .local _ .vmem, ⟨1, _⟩ => ⟨S2x2048x8192, .f32⟩
  | .local _ .vmem, ⟨2, _⟩ => ⟨S2x8192x2048, .fp8e4m3⟩
  | .local _ .vmem, ⟨3, _⟩ => ⟨S2x2048x8192, .fp8e4m3⟩
  | _, _ => ⟨S2x8192x2112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_8 : Ref sig .tc := ⟨.hbm, 53, rfl⟩
abbrev main_v40 : Ref sig .tc := ⟨.hbm, 54, rfl⟩
abbrev main_v41 : Ref sig .tc := ⟨.hbm, 55, rfl⟩
abbrev main_c_9 : Ref sig .tc := ⟨.hbm, 56, rfl⟩
abbrev main_call0_v0 : Ref sig .tc := ⟨.hbm, 57, rfl⟩
abbrev main_call0_v1 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_cst_13 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_c_15 : Ref sig .tc := ⟨.hbm, 86, rfl⟩
abbrev main_v59 : Ref sig .tc := ⟨.hbm, 87, rfl⟩
abbrev main_v60 : Ref sig .tc := ⟨.hbm, 88, rfl⟩
abbrev main_c_16 : Ref sig .tc := ⟨.hbm, 89, rfl⟩
abbrev main_v61 : Ref sig .tc := ⟨.hbm, 90, rfl⟩
abbrev main_v62 : Ref sig .tc := ⟨.hbm, 91, rfl⟩
abbrev main_c_17 : Ref sig .tc := ⟨.hbm, 92, rfl⟩
abbrev main_v63 : Ref sig .tc := ⟨.hbm, 93, rfl⟩
abbrev main_v64 : Ref sig .tc := ⟨.hbm, 94, rfl⟩
abbrev main_c_18 : Ref sig .tc := ⟨.hbm, 95, rfl⟩
abbrev main_v65 : Ref sig .tc := ⟨.hbm, 96, rfl⟩
abbrev main_v66 : Ref sig .tc := ⟨.hbm, 97, rfl⟩
abbrev main_c_19 : Ref sig .tc := ⟨.hbm, 98, rfl⟩
abbrev main_v67 : Ref sig .tc := ⟨.hbm, 99, rfl⟩
abbrev main_v68 : Ref sig .tc := ⟨.hbm, 100, rfl⟩
abbrev main_c_20 : Ref sig .tc := ⟨.hbm, 101, rfl⟩
abbrev main_v69 : Ref sig .tc := ⟨.hbm, 102, rfl⟩
abbrev main_v70 : Ref sig .tc := ⟨.hbm, 103, rfl⟩
abbrev main_c_21 : Ref sig .tc := ⟨.hbm, 104, rfl⟩
abbrev main_v71 : Ref sig .tc := ⟨.hbm, 105, rfl⟩
abbrev main_v72 : Ref sig .tc := ⟨.hbm, 106, rfl⟩
abbrev main_c_22 : Ref sig .tc := ⟨.hbm, 107, rfl⟩
abbrev main_v73 : Ref sig .tc := ⟨.hbm, 108, rfl⟩
abbrev main_v74 : Ref sig .tc := ⟨.hbm, 109, rfl⟩
abbrev main_c_23 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_24 : Ref sig .tc := ⟨.hbm, 120, rfl⟩
abbrev main_v84 : Ref sig .tc := ⟨.hbm, 121, rfl⟩
abbrev main_v85 : Ref sig .tc := ⟨.hbm, 122, rfl⟩
abbrev main_cst_25 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117_0 : Ref sig .tc := ⟨.hbm, 155, rfl⟩
abbrev main_v117_1 : Ref sig .tc := ⟨.hbm, 156, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x8192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2048x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/- What one trip of the kernel's loop stores, each stored tile as one of a few named stages: the row's reciprocal root
   mean square, a group's scaled values, the exponent field of a group's quotient, the two scale words, the codes. -/
module

public import proofs.«01_k».proof.Proof.Gen.KernelIdeal.Loops
public import Idealize.ShloMosaic.Lib.Pipeline.ValueKit

@[expose] public section

noncomputable section

namespace Cert.KernelIdeal.Tile

open Cert.KernelIdeal Cert.KernelIdeal.Gen
open Idealize.ShloMosaic Idealize.ShloMosaic.TcCoe Idealize.SL.Sem

variable {F : FTy → Type} [FloatOps F]

/-- A loaded tile of the latent's channels, widened. -/
def up (v : Vec F S1x128x128 .bf16) : FVec F S128x128 .f32 :=
  extf .f32 (shapeCast S128x128 v shapeCasts_S1x128x128_S128x128) bitsLt_bf16_f32

/-- The squares of one tile summed over its sixteen row blocks. -/
def sq8 (v : Vec F S1x128x128 .bf16) : FVec F S8x128 .f32 :=
  multiReduction .add [0] S8x128 (shapeCast S16x8x128 (mulf (up v) (up v)) shapeCasts_S128x128_S16x8x128) 0x00000000#32
    reduces_S16x8x128_S8x128 (.inl rfl) rfl

/-- The reciprocal root mean square from the sum of squares held in eight rows. -/
def rinv8 (s : FVec F S8x128 .f32) : FVec F S1x128 .f32 :=
  rsqrt (addf (mulf (shapeCast S1x128 (multiReduction .add [0] S128 s 0x00000000#32 reduces_S8x128_S128 (.inl rfl) rfl)
    shapeCasts_S128_S1x128) (broadcast S1x128 (Scalar.ofBits .f32 0x3A000000#32))) (broadcast S1x128 (Scalar.ofBits .f32 0x358637BD#32)))

/-- The reciprocal root mean square of a token column of sixteen tiles. -/
def rinv (x : Fin 16 → Vec F S1x128x128 .bf16) : FVec F S1x128 .f32 :=
  rinv8 (addf (addf (addf (addf (addf (addf (addf (addf (addf (addf (addf (addf (addf (addf (addf (addf (broadcast S8x128 (Scalar.ofBits .f32 0x00000000#32)) (sq8 (x 0))) (sq8 (x 1))) (sq8 (x 2))) (sq8 (x 3))) (sq8 (x 4))) (sq8 (x 5))) (sq8 (x 6))) (sq8 (x 7))) (sq8 (x 8))) (sq8 (x 9))) (sq8 (x 10))) (sq8 (x 11))) (sq8 (x 12))) (sq8 (x 13))) (sq8 (x 14))) (sq8 (x 15)))

/-- A group's normalised values. -/
def yv (r : FVec F S1x128 .f32) (v : Vec F S1x128x128 .bf16) (g : Vec F S128x128 .f32) : FVec F S128x128 .f32 :=
  mulf (mulf (up v) (broadcastTo S128x128 r broadcasts_S1x128_S128x128)) g

/-- A group's quotient: its largest magnitude over 448. -/
def quot (y : FVec F S128x128 .f32) : FVec F S1x128 .f32 :=
  mulf (shapeCast S1x128 (multiReduction .maximumf [0] S128 (absf y) 0xFF800000#32 reduces_S128x128_S128 (.inl rfl) rfl)
    shapeCasts_S128_S1x128) (broadcast S1x128 (Scalar.ofBits .f32 0x3B124925#32))

/-- One step of the search for the exponent field. -/
def step (cap : FVec F S1x128 .f32) (b : BitVec 32) (ef : IVec S1x128 32) : IVec S1x128 32 :=
  select (cmpf .oge cap (bitcastToFloat .f32 (addi ef (broadcast S1x128 b)))) (addi ef (broadcast S1x128 b)) ef

/-- The exponent field of a quotient, in place. -/
def expo (q : FVec F S1x128 .f32) : IVec S1x128 32 :=
  select (cmpf .oeq q (broadcast S1x128 (Scalar.ofBits .f32 0x7F800000#32))) (broadcast S1x128 2139095040#32)
    (step (minimumf q (broadcast S1x128 (Scalar.ofBits .f32 0x7E000000#32))) 8388608#32 (step (minimumf q (broadcast S1x128 (Scalar.ofBits .f32 0x7E000000#32))) 16777216#32 (step (minimumf q (broadcast S1x128 (Scalar.ofBits .f32 0x7E000000#32))) 33554432#32 (step (minimumf q (broadcast S1x128 (Scalar.ofBits .f32 0x7E000000#32))) 67108864#32 (step (minimumf q (broadcast S1x128 (Scalar.ofBits .f32 0x7E000000#32))) 134217728#32 (step (minimumf q (broadcast S1x128 (Scalar.ofBits .f32 0x7E000000#32))) 268435456#32 (step (minimumf q (broadcast S1x128 (Scalar.ofBits .f32 0x7E000000#32))) 536870912#32 (step (minimumf q (broadcast S1x128 (Scalar.ofBits .f32 0x7E000000#32))) 1073741824#32 (broadcast S1x128 0#32)))))))))

/-- Whether the exponent field is one of the two that take the scale 1. -/
def plain (ef : IVec S1x128 32) : IVec S1x128 1 :=
  ori (cmpi .eq ef (broadcast S1x128 0#32)) (cmpi .eq ef (broadcast S1x128 2139095040#32))

/-- The word of the scale. -/
def word (ef : IVec S1x128 32) : IVec S1x128 32 :=
  select (plain ef) (broadcast S1x128 1065353216#32) (addi ef (broadcast S1x128 8388608#32))

/-- The word of the scale's inverse. -/
def iword (ef : IVec S1x128 32) : IVec S1x128 32 :=
  select (plain ef) (broadcast S1x128 1065353216#32) (subi (broadcast S1x128 2122317824#32) ef)

/-- A group's codes. -/
def codes (y : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32))
    (mulf y (broadcastTo S128x128 (bitcastToFloat .f32 (iword (expo (quot y)))) broadcasts_S1x128_S128x128)))) bitsLt_fp8e4m3_f32

/-- The codes' tile, channels first, as stored. -/
def codesT (y : FVec F S128x128 .f32) : FVec F S1x128x128 .fp8e4m3 :=
  shapeCast S1x128x128 (codes y) shapeCasts_S128x128_S1x128x128

/-- The codes' tile, tokens first, as stored. -/
def codesN (y : FVec F S128x128 .f32) : FVec F S1x128x128 .fp8e4m3 :=
  shapeCast S1x128x128 (truncf .fp8e4m3 (transpose S128x128 [1, 0] (extf .bf16 (codes y) bitsLt_fp8e4m3_bf16)
    transposes_S128x128_p1_0_S128x128) bitsLt_fp8e4m3_bf16) shapeCasts_S128x128_S1x128x128

/-- The scales' row, as stored. -/
def scaleR (y : FVec F S128x128 .f32) : FVec F S1x1x128 .f32 :=
  shapeCast S1x1x128 (bitcastToFloat .f32 (word (expo (quot y)))) shapeCasts_S1x128_S1x1x128

/-- The scales' bytes, as stored. -/
def bytesR (w : Fin 16 → IVec S1x128 32) : IVec S1x64x128 8 :=
  shapeCast S1x64x128 (bitcast S64x128 8 (concatenate S16x128 0 [⟨S1x128, w 0⟩, ⟨S1x128, w 1⟩, ⟨S1x128, w 2⟩, ⟨S1x128, w 3⟩, ⟨S1x128, w 4⟩, ⟨S1x128, w 5⟩, ⟨S1x128, w 6⟩, ⟨S1x128, w 7⟩, ⟨S1x128, w 8⟩, ⟨S1x128, w 9⟩, ⟨S1x128, w 10⟩, ⟨S1x128, w 11⟩, ⟨S1x128, w 12⟩, ⟨S1x128, w 13⟩, ⟨S1x128, w 14⟩, ⟨S1x128, w 15⟩]
    concatenates_S1x128_S1x128_S1x128_S1x128_S1x128_S1x128_S1x128_S1x128_S1x128_S1x128_S1x128_S1x128_S1x128_S1x128_S1x128_S1x128_S16x128_d0) bitcasts_S16x128_w32_S64x128_w8) shapeCasts_S64x128_S1x64x128

/-- The rotated key, as stored. -/
def ropeR (base : BitVec 32) (fr : Vec F S32x128 .f32) (kr : Vec F S1x64x128 .bf16) : FVec F S1x64x128 .bf16 :=
  have ang : FVec F S32x128 .f32 := mulf (sitofp .f32 (addi (broadcast S32x128 base) (iota .tc S32x128 32 [1] iota_S32x128_d1_w32))) (shapeCast S32x128 fr shapeCasts_S32x128_S32x128)
  have k : FVec F S64x128 .f32 := extf .f32 (shapeCast S64x128 kr shapeCasts_S1x64x128_S64x128) bitsLt_bf16_f32
  have k1 : FVec F S32x128 .f32 := extractStridedSlice S32x128 ![0, 0] k slices_S64x128_o0_0_S32x128
  have k2 : FVec F S32x128 .f32 := extractStridedSlice S32x128 ![32, 0] k slices_S64x128_o32_0_S32x128
  shapeCast S1x64x128 (truncf .bf16 (concatenate S64x128 0 [⟨S32x128, subf (mulf k1 (cos ang)) (mulf k2 (sin ang))⟩,
    ⟨S32x128, addf (mulf k2 (cos ang)) (mulf k1 (sin ang))⟩] concatenates_S32x128_S32x128_S64x128_d0) bitsLt_bf16_f32) shapeCasts_S64x128_S1x64x128

/-- The tile of group `g` that a trip loads. -/
def xt (arg3 : Memref sig .tc .vmem S1x2112x512 .bf16) (X_arg3 : BufTy.Contents (Elt F) arg3.view.ty) (k : Fin k0_t1_loop.trips) : Fin 16 → Vec F S1x128x128 .bf16 :=
  ![
    View.readAt (Elt F) arg3.view (Rect.unit (s := S1x2112x512) (k0_off2 k) S1x128x128.size (k0_off2_inb k)).toLoadRect X_arg3,
    View.readAt (Elt F) arg3.view (Rect.unit (s := S1x2112x512) (k0_off3 k) S1x128x128.size (k0_off3_inb k)).toLoadRect X_arg3,
    View.readAt (Elt F) arg3.view (Rect.unit (s := S1x2112x512) (k0_off4 k) S1x128x128.size (k0_off4_inb k)).toLoadRect X_arg3,
    View.readAt (Elt F) arg3.view (Rect.unit (s := S1x2112x512) (k0_off5 k) S1x128x128.size (k0_off5_inb k)).toLoadRect X_arg3,
    View.readAt (Elt F) arg3.view (Rect.unit (s := S1x2112x512) (k0_off6 k) S1x128x128.size (k0_off6_inb k)).toLoadRect X_arg3,
    View.readAt (Elt F) arg3.view (Rect.unit (s := S1x2112x512) (k0_off7 k) S1x128x128.size (k0_off7_inb k)).toLoadRect X_arg3,
    View.readAt (Elt F) arg3.view (Rect.unit (s := S1x2112x512) (k0_off8 k) S1x128x128.size (k0_off8_inb k)).toLoadRect X_arg3,
    View.readAt (Elt F) arg3.view (Rect.unit (s := S1x2112x512) (k0_off9 k) S1x128x128.size (k0_off9_inb k)).toLoadRect X_arg3,
    View.readAt (Elt F) arg3.view (Rect.unit (s := S1x2112x512) (k0_off10 k) S1x128x128.size (k0_off10_inb k)).toLoadRect X_arg3,
    View.readAt (Elt F) arg3.view (Rect.unit (s := S1x2112x512) (k0_off11 k) S1x128x128.size (k0_off11_inb k)).toLoadRect X_arg3,
    View.readAt (Elt F) arg3.view (Rect.unit (s := S1x2112x512) (k0_off12 k) S1x128x128.size (k0_off12_inb k)).toLoadRect X_arg3,
    View.readAt (Elt F) arg3.view (Rect.unit (s := S1x2112x512) (k0_off13 k) S1x128x128.size (k0_off13_inb k)).toLoadRect X_arg3,
    View.readAt (Elt F) arg3.view (Rect.unit (s := S1x2112x512) (k0_off14 k) S1x128x128.size (k0_off14_inb k)).toLoadRect X_arg3,
    View.readAt (Elt F) arg3.view (Rect.unit (s := S1x2112x512) (k0_off15 k) S1x128x128.size (k0_off15_inb k)).toLoadRect X_arg3,
    View.readAt (Elt F) arg3.view (Rect.unit (s := S1x2112x512) (k0_off16 k) S1x128x128.size (k0_off16_inb k)).toLoadRect X_arg3,
    View.readAt (Elt F) arg3.view (Rect.unit (s := S1x2112x512) (k0_off17 k) S1x128x128.size (k0_off17_inb k)).toLoadRect X_arg3]

/-- The scratch's rows of group `g`. -/
def gt (arg11 : Memref sig .tc .vmem S2048x128 .f32) (X_arg11 : BufTy.Contents (Elt F) arg11.view.ty) : Fin 16 → Vec F S128x128 .f32 :=
  ![
    View.readAt (Elt F) arg11.view (Rect.unit (s := S2048x128) ![0, 0] S128x128.size inb_S2048x128_S128x128_0_0).toLoadRect X_arg11,
    View.readAt (Elt F) arg11.view (Rect.unit (s := S2048x128) ![128, 0] S128x128.size inb_S2048x128_S128x128_128_0).toLoadRect X_arg11,
    View.readAt (Elt F) arg11.view (Rect.unit (s := S2048x128) ![256, 0] S128x128.size inb_S2048x128_S128x128_256_0).toLoadRect X_arg11,
    View.readAt (Elt F) arg11.view (Rect.unit (s := S2048x128) ![384, 0] S128x128.size inb_S2048x128_S128x128_384_0).toLoadRect X_arg11,
    View.readAt (Elt F) arg11.view (Rect.unit (s := S2048x128) ![512, 0] S128x128.size inb_S2048x128_S128x128_512_0).toLoadRect X_arg11,
    View.readAt (Elt F) arg11.view (Rect.unit (s := S2048x128) ![640, 0] S128x128.size inb_S2048x128_S128x128_640_0).toLoadRect X_arg11,
    View.readAt (Elt F) arg11.view (Rect.unit (s := S2048x128) ![768, 0] S128x128.size inb_S2048x128_S128x128_768_0).toLoadRect X_arg11,
    View.readAt (Elt F) arg11.view (Rect.unit (s := S2048x128) ![896, 0] S128x128.size inb_S2048x128_S128x128_896_0).toLoadRect X_arg11,
    View.readAt (Elt F) arg11.view (Rect.unit (s := S2048x128) ![1024, 0] S128x128.size inb_S2048x128_S128x128_1024_0).toLoadRect X_arg11,
    View.readAt (Elt F) arg11.view (Rect.unit (s := S2048x128) ![1152, 0] S128x128.size inb_S2048x128_S128x128_1152_0).toLoadRect X_arg11,
    View.readAt (Elt F) arg11.view (Rect.unit (s := S2048x128) ![1280, 0] S128x128.size inb_S2048x128_S128x128_1280_0).toLoadRect X_arg11,
    View.readAt (Elt F) arg11.view (Rect.unit (s := S2048x128) ![1408, 0] S128x128.size inb_S2048x128_S128x128_1408_0).toLoadRect X_arg11,
    View.readAt (Elt F) arg11.view (Rect.unit (s := S2048x128) ![1536, 0] S128x128.size inb_S2048x128_S128x128_1536_0).toLoadRect X_arg11,
    View.readAt (Elt F) arg11.view (Rect.unit (s := S2048x128) ![1664, 0] S128x128.size inb_S2048x128_S128x128_1664_0).toLoadRect X_arg11,
    View.readAt (Elt F) arg11.view (Rect.unit (s := S2048x128) ![1792, 0] S128x128.size inb_S2048x128_S128x128_1792_0).toLoadRect X_arg11,
    View.readAt (Elt F) arg11.view (Rect.unit (s := S2048x128) ![1920, 0] S128x128.size inb_S2048x128_S128x128_1920_0).toLoadRect X_arg11]

/-- The normalised values of group `g` in a trip. -/
def yt (arg3 : Memref sig .tc .vmem S1x2112x512 .bf16) (X_arg3 : BufTy.Contents (Elt F) arg3.view.ty) (arg11 : Memref sig .tc .vmem S2048x128 .f32)
    (X_arg11 : BufTy.Contents (Elt F) arg11.view.ty) (k : Fin k0_t1_loop.trips) (g : Fin 16) : FVec F S128x128 .f32 :=
  yv (trip_k0_t1.sl.r_5 arg3 X_arg3 k) (xt arg3 X_arg3 k g) (gt arg11 X_arg11 g)

/-- The position of a trip's first token. -/
def base (arg1 : BitVec 32) (v6 : BitVec 32) (k : Fin k0_t1_loop.trips) : BitVec 32 :=
  Scalar.addi (Scalar.addi v6 (Scalar.muli arg1 512#32)) (Scalar.muli (Scalar.addi 0#32 (Scalar.muli (Scf.iv 0#32 1#32 k.val) 1#32)) 128#32)

set_option maxRecDepth 65536

/-- The reciprocal root mean square a trip computes, of its sixteen tiles. -/
theorem r_eq (arg3 : Memref sig .tc .vmem S1x2112x512 .bf16) (X_arg3 : BufTy.Contents (Elt F) arg3.view.ty) (k : Fin k0_t1_loop.trips) :
    trip_k0_t1.sl.r_5 arg3 X_arg3 k = rinv (xt arg3 X_arg3 k) := rfl

theorem tripL_codesT (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt F .i32) (X_arg3 : BufTy.Contents (Elt F) arg3.view.ty) (X_arg5 : BufTy.Contents (Elt F) arg5.view.ty) (X_arg11 : BufTy.Contents (Elt F) arg11.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg1 v6 X_arg3 X_arg5 X_arg11 k).1 = [⟨Rect.unit (s := S1x2048x512) (k0_off64 k) S1x128x128.size (k0_off64_inb k), codesT (yt arg3 X_arg3 arg11 X_arg11 k 15)⟩,
      ⟨Rect.unit (s := S1x2048x512) (k0_off61 k) S1x128x128.size (k0_off61_inb k), codesT (yt arg3 X_arg3 arg11 X_arg11 k 14)⟩,
      ⟨Rect.unit (s := S1x2048x512) (k0_off58 k) S1x128x128.size (k0_off58_inb k), codesT (yt arg3 X_arg3 arg11 X_arg11 k 13)⟩,
      ⟨Rect.unit (s := S1x2048x512) (k0_off55 k) S1x128x128.size (k0_off55_inb k), codesT (yt arg3 X_arg3 arg11 X_arg11 k 12)⟩,
      ⟨Rect.unit (s := S1x2048x512) (k0_off52 k) S1x128x128.size (k0_off52_inb k), codesT (yt arg3 X_arg3 arg11 X_arg11 k 11)⟩,
      ⟨Rect.unit (s := S1x2048x512) (k0_off49 k) S1x128x128.size (k0_off49_inb k), codesT (yt arg3 X_arg3 arg11 X_arg11 k 10)⟩,
      ⟨Rect.unit (s := S1x2048x512) (k0_off46 k) S1x128x128.size (k0_off46_inb k), codesT (yt arg3 X_arg3 arg11 X_arg11 k 9)⟩,
      ⟨Rect.unit (s := S1x2048x512) (k0_off43 k) S1x128x128.size (k0_off43_inb k), codesT (yt arg3 X_arg3 arg11 X_arg11 k 8)⟩,
      ⟨Rect.unit (s := S1x2048x512) (k0_off40 k) S1x128x128.size (k0_off40_inb k), codesT (yt arg3 X_arg3 arg11 X_arg11 k 7)⟩,
      ⟨Rect.unit (s := S1x2048x512) (k0_off37 k) S1x128x128.size (k0_off37_inb k), codesT (yt arg3 X_arg3 arg11 X_arg11 k 6)⟩,
      ⟨Rect.unit (s := S1x2048x512) (k0_off34 k) S1x128x128.size (k0_off34_inb k), codesT (yt arg3 X_arg3 arg11 X_arg11 k 5)⟩,
      ⟨Rect.unit (s := S1x2048x512) (k0_off31 k) S1x128x128.size (k0_off31_inb k), codesT (yt arg3 X_arg3 arg11 X_arg11 k 4)⟩,
      ⟨Rect.unit (s := S1x2048x512) (k0_off28 k) S1x128x128.size (k0_off28_inb k), codesT (yt arg3 X_arg3 arg11 X_arg11 k 3)⟩,
      ⟨Rect.unit (s := S1x2048x512) (k0_off25 k) S1x128x128.size (k0_off25_inb k), codesT (yt arg3 X_arg3 arg11 X_arg11 k 2)⟩,
      ⟨Rect.unit (s := S1x2048x512) (k0_off22 k) S1x128x128.size (k0_off22_inb k), codesT (yt arg3 X_arg3 arg11 X_arg11 k 1)⟩,
      ⟨Rect.unit (s := S1x2048x512) (k0_off19 k) S1x128x128.size (k0_off19_inb k), codesT (yt arg3 X_arg3 arg11 X_arg11 k 0)⟩] := by
  unfold trip_k0_t1; dsimp only; rfl

theorem tripL_scale (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt F .i32) (X_arg3 : BufTy.Contents (Elt F) arg3.view.ty) (X_arg5 : BufTy.Contents (Elt F) arg5.view.ty) (X_arg11 : BufTy.Contents (Elt F) arg11.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg1 v6 X_arg3 X_arg5 X_arg11 k).2.2.2.2.1 = [⟨Rect.unit (s := S1x16x512) (k0_off63 k) S1x1x128.size (k0_off63_inb k), scaleR (yt arg3 X_arg3 arg11 X_arg11 k 15)⟩,
      ⟨Rect.unit (s := S1x16x512) (k0_off60 k) S1x1x128.size (k0_off60_inb k), scaleR (yt arg3 X_arg3 arg11 X_arg11 k 14)⟩,
      ⟨Rect.unit (s := S1x16x512) (k0_off57 k) S1x1x128.size (k0_off57_inb k), scaleR (yt arg3 X_arg3 arg11 X_arg11 k 13)⟩,
      ⟨Rect.unit (s := S1x16x512) (k0_off54 k) S1x1x128.size (k0_off54_inb k), scaleR (yt arg3 X_arg3 arg11 X_arg11 k 12)⟩,
      ⟨Rect.unit (s := S1x16x512) (k0_off51 k) S1x1x128.size (k0_off51_inb k), scaleR (yt arg3 X_arg3 arg11 X_arg11 k 11)⟩,
      ⟨Rect.unit (s := S1x16x512) (k0_off48 k) S1x1x128.size (k0_off48_inb k), scaleR (yt arg3 X_arg3 arg11 X_arg11 k 10)⟩,
      ⟨Rect.unit (s := S1x16x512) (k0_off45 k) S1x1x128.size (k0_off45_inb k), scaleR (yt arg3 X_arg3 arg11 X_arg11 k 9)⟩,
      ⟨Rect.unit (s := S1x16x512) (k0_off42 k) S1x1x128.size (k0_off42_inb k), scaleR (yt arg3 X_arg3 arg11 X_arg11 k 8)⟩,
      ⟨Rect.unit (s := S1x16x512) (k0_off39 k) S1x1x128.size (k0_off39_inb k), scaleR (yt arg3 X_arg3 arg11 X_arg11 k 7)⟩,
      ⟨Rect.unit (s := S1x16x512) (k0_off36 k) S1x1x128.size (k0_off36_inb k), scaleR (yt arg3 X_arg3 arg11 X_arg11 k 6)⟩,
      ⟨Rect.unit (s := S1x16x512) (k0_off33 k) S1x1x128.size (k0_off33_inb k), scaleR (yt arg3 X_arg3 arg11 X_arg11 k 5)⟩,
      ⟨Rect.unit (s := S1x16x512) (k0_off30 k) S1x1x128.size (k0_off30_inb k), scaleR (yt arg3 X_arg3 arg11 X_arg11 k 4)⟩,
      ⟨Rect.unit (s := S1x16x512) (k0_off27 k) S1x1x128.size (k0_off27_inb k), scaleR (yt arg3 X_arg3 arg11 X_arg11 k 3)⟩,
      ⟨Rect.unit (s := S1x16x512) (k0_off24 k) S1x1x128.size (k0_off24_inb k), scaleR (yt arg3 X_arg3 arg11 X_arg11 k 2)⟩,
      ⟨Rect.unit (s := S1x16x512) (k0_off21 k) S1x1x128.size (k0_off21_inb k), scaleR (yt arg3 X_arg3 arg11 X_arg11 k 1)⟩,
      ⟨Rect.unit (s := S1x16x512) (k0_off18 k) S1x1x128.size (k0_off18_inb k), scaleR (yt arg3 X_arg3 arg11 X_arg11 k 0)⟩] := by
  unfold trip_k0_t1; dsimp only; rfl

theorem tripL_codesN (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt F .i32) (X_arg3 : BufTy.Contents (Elt F) arg3.view.ty) (X_arg5 : BufTy.Contents (Elt F) arg5.view.ty) (X_arg11 : BufTy.Contents (Elt F) arg11.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg1 v6 X_arg3 X_arg5 X_arg11 k).2.2.2.1 = [⟨Rect.unit (s := S1x512x2048) (k0_off65 k) S1x128x128.size (k0_off65_inb k), codesN (yt arg3 X_arg3 arg11 X_arg11 k 15)⟩,
      ⟨Rect.unit (s := S1x512x2048) (k0_off62 k) S1x128x128.size (k0_off62_inb k), codesN (yt arg3 X_arg3 arg11 X_arg11 k 14)⟩,
      ⟨Rect.unit (s := S1x512x2048) (k0_off59 k) S1x128x128.size (k0_off59_inb k), codesN (yt arg3 X_arg3 arg11 X_arg11 k 13)⟩,
      ⟨Rect.unit (s := S1x512x2048) (k0_off56 k) S1x128x128.size (k0_off56_inb k), codesN (yt arg3 X_arg3 arg11 X_arg11 k 12)⟩,
      ⟨Rect.unit (s := S1x512x2048) (k0_off53 k) S1x128x128.size (k0_off53_inb k), codesN (yt arg3 X_arg3 arg11 X_arg11 k 11)⟩,
      ⟨Rect.unit (s := S1x512x2048) (k0_off50 k) S1x128x128.size (k0_off50_inb k), codesN (yt arg3 X_arg3 arg11 X_arg11 k 10)⟩,
      ⟨Rect.unit (s := S1x512x2048) (k0_off47 k) S1x128x128.size (k0_off47_inb k), codesN (yt arg3 X_arg3 arg11 X_arg11 k 9)⟩,
      ⟨Rect.unit (s := S1x512x2048) (k0_off44 k) S1x128x128.size (k0_off44_inb k), codesN (yt arg3 X_arg3 arg11 X_arg11 k 8)⟩,
      ⟨Rect.unit (s := S1x512x2048) (k0_off41 k) S1x128x128.size (k0_off41_inb k), codesN (yt arg3 X_arg3 arg11 X_arg11 k 7)⟩,
      ⟨Rect.unit (s := S1x512x2048) (k0_off38 k) S1x128x128.size (k0_off38_inb k), codesN (yt arg3 X_arg3 arg11 X_arg11 k 6)⟩,
      ⟨Rect.unit (s := S1x512x2048) (k0_off35 k) S1x128x128.size (k0_off35_inb k), codesN (yt arg3 X_arg3 arg11 X_arg11 k 5)⟩,
      ⟨Rect.unit (s := S1x512x2048) (k0_off32 k) S1x128x128.size (k0_off32_inb k), codesN (yt arg3 X_arg3 arg11 X_arg11 k 4)⟩,
      ⟨Rect.unit (s := S1x512x2048) (k0_off29 k) S1x128x128.size (k0_off29_inb k), codesN (yt arg3 X_arg3 arg11 X_arg11 k 3)⟩,
      ⟨Rect.unit (s := S1x512x2048) (k0_off26 k) S1x128x128.size (k0_off26_inb k), codesN (yt arg3 X_arg3 arg11 X_arg11 k 2)⟩,
      ⟨Rect.unit (s := S1x512x2048) (k0_off23 k) S1x128x128.size (k0_off23_inb k), codesN (yt arg3 X_arg3 arg11 X_arg11 k 1)⟩,
      ⟨Rect.unit (s := S1x512x2048) (k0_off20 k) S1x128x128.size (k0_off20_inb k), codesN (yt arg3 X_arg3 arg11 X_arg11 k 0)⟩] := by
  unfold trip_k0_t1; dsimp only; rfl

theorem tripL_bytes (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt F .i32) (X_arg3 : BufTy.Contents (Elt F) arg3.view.ty) (X_arg5 : BufTy.Contents (Elt F) arg5.view.ty) (X_arg11 : BufTy.Contents (Elt F) arg11.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg1 v6 X_arg3 X_arg5 X_arg11 k).2.1 = [⟨Rect.unit (s := S1x64x512) (k0_off66 k) S1x64x128.size (k0_off66_inb k), bytesR fun g => word (expo (quot (yt arg3 X_arg3 arg11 X_arg11 k g)))⟩] := by
  unfold trip_k0_t1; dsimp only; rfl

theorem tripL_rope (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt F .i32) (X_arg3 : BufTy.Contents (Elt F) arg3.view.ty) (X_arg5 : BufTy.Contents (Elt F) arg5.view.ty) (X_arg11 : BufTy.Contents (Elt F) arg11.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg1 v6 X_arg3 X_arg5 X_arg11 k).2.2.1 = [⟨Rect.unit (s := S1x64x512) (k0_off66 k) S1x64x128.size (k0_off66_inb k), ropeR (base arg1 v6 k) (View.readAt (Elt F) arg5.view (Rect.unit (s := S32x128) ![0, 0] S32x128.size inb_S32x128_S32x128_0_0).toLoadRect X_arg5) (View.readAt (Elt F) arg3.view (Rect.unit (s := S1x2112x512) (k0_off67 k) S1x64x128.size (k0_off67_inb k)).toLoadRect X_arg3)⟩] := by
  unfold trip_k0_t1; dsimp only; rfl

end Cert.KernelIdeal.Tile

end
-- ==== Proof.Spec.lean ====
/- The kernel's values as functions of one token's row: plain formulas over the extended reals, the scale words as bit vectors. -/
module

public import Idealize.ShloMosaic.PureOps.Ideal
public import Idealize.ShloMosaic.Lib.Pointwise

@[expose] public section

noncomputable section

namespace Cert.Spec

open Idealize.ShloMosaic

/-- One step of the search for the exponent field. -/
def step (cap : EReal) (b ef : BitVec 32) : BitVec 32 := if Ideal.ofBits .f32 (ef + b) ≤ cap then ef + b else ef

/-- The exponent field of a quotient, in place. -/
def expo (q : EReal) : BitVec 32 :=
  if q = Ideal.ofBits .f32 0x7F800000#32 then 2139095040#32 else
    step (min q (Ideal.ofBits .f32 0x7E000000#32)) 8388608#32 (step (min q (Ideal.ofBits .f32 0x7E000000#32)) 16777216#32 (step (min q (Ideal.ofBits .f32 0x7E000000#32)) 33554432#32 (step (min q (Ideal.ofBits .f32 0x7E000000#32)) 67108864#32 (step (min q (Ideal.ofBits .f32 0x7E000000#32)) 134217728#32 (step (min q (Ideal.ofBits .f32 0x7E000000#32)) 268435456#32 (step (min q (Ideal.ofBits .f32 0x7E000000#32)) 536870912#32 (step (min q (Ideal.ofBits .f32 0x7E000000#32)) 1073741824#32 (0#32))))))))

/-- Whether the exponent field is one of the two that take the scale 1. -/
def plain (ef : BitVec 32) : Prop := ef = 0#32 ∨ ef = 2139095040#32

instance (ef : BitVec 32) : Decidable (plain ef) := inferInstanceAs (Decidable (_ ∨ _))

/-- The word of the scale. -/
def word (q : EReal) : BitVec 32 := if plain (expo q) then 1065353216#32 else expo q + 8388608#32

/-- The word of the scale's inverse. -/
def iword (q : EReal) : BitVec 32 := if plain (expo q) then 1065353216#32 else 2122317824#32 - expo q

/-- A value's code at the group's quotient. -/
def code (q y : EReal) : EReal :=
  min (Ideal.ofBits .f32 0x43E00000#32) (max (Ideal.ofBits .f32 0xC3E00000#32) (y * Ideal.ofBits .f32 (iword q)))

/-- The reciprocal root mean square of a row. -/
def rinv (x : Fin 2048 → EReal) : EReal :=
  Ideal.rsqrt ((∑ c, x c * x c) * Ideal.ofBits .f32 0x3A000000#32 + Ideal.ofBits .f32 0x358637BD#32)

/-- A normalised value. -/
def norm (x γ : Fin 2048 → EReal) (c : Fin 2048) : EReal := x c * rinv x * γ c

/-- The quotient of a group: its largest magnitude over 448. -/
def quot (v : Fin 128 → EReal) : EReal :=
  Finset.fold max (Ideal.ofBits .f32 0xFF800000#32) (fun l => FloatOps.absf (F := Ideal) (φ := .f32) (v l)) Finset.univ * Ideal.ofBits .f32 0x3B124925#32

/-- The channel of lane `l` of group `g`. -/
def chan (g : Fin 16) (l : Fin 128) : Fin 2048 := ⟨128 * g.val + l.val, by omega⟩

/-- The group of a channel. -/
def grp (c : Fin 2048) : Fin 16 := ⟨c.val / 128, by omega⟩

/-- The quotient of group `g` of a row. -/
def q (x γ : Fin 2048 → EReal) (g : Fin 16) : EReal := quot fun l => norm x γ (chan g l)

/-- Byte `b` of a word, lowest first. -/
def byte (w : BitVec 32) (b : ℕ) : BitVec 8 := w.extractLsb' (8 * b) 8

/-- The rotated key of a token at position `p`. -/
def rope (p : BitVec 32) (fr : Fin 32 → EReal) (k : Fin 64 → EReal) (j : Fin 64) : EReal :=
  have ang (i : Fin 32) : EReal := FloatOps.sitofp (F := Ideal) .f32 p * fr i
  if h : j.val < 32 then
    k ⟨j.val, by omega⟩ * Ideal.cos (ang ⟨j.val, h⟩) - k ⟨32 + j.val, by omega⟩ * Ideal.sin (ang ⟨j.val, h⟩)
  else
    k ⟨32 + (j.val - 32), by omega⟩ * Ideal.cos (ang ⟨j.val - 32, by omega⟩) + k ⟨j.val - 32, by omega⟩ * Ideal.sin (ang ⟨j.val - 32, by omega⟩)

end Cert.Spec

end
-- ==== Proof.TileAt.lean ====
/- The stages of a trip read at one element, over the extended reals. -/
module

public import proofs.«01_k».proof.Proof.Tile
public import proofs.«01_k».proof.Proof.Spec
public import Idealize.ShloMosaic.Lib.Pointwise
public import Idealize.ShloMosaic.Lib.BitcastPair

@[expose] public section

noncomputable section

namespace Cert.KernelIdeal.Tile

open Cert.KernelIdeal Cert.KernelIdeal.Gen
open Idealize.ShloMosaic Idealize.ShloMosaic.TcCoe Idealize.SL.Sem

set_option maxRecDepth 16384

/-! ## Sums over a row, in the kernel's order -/

theorem sum_mul (m n : ℕ) (f : Fin (m * n) → EReal) :
    ∑ a : Fin m, ∑ b : Fin n, f ⟨b.val + n * a.val, (finProdFinEquiv (a, b)).isLt⟩ = ∑ l, f l := by
  rw [← (finProdFinEquiv (m := m) (n := n)).sum_comp f, Fintype.sum_prod_type]
  rfl

theorem sum_rows (f : Fin 128 → EReal) : ∑ a : Fin 8, ∑ x : Fin 16, f ⟨x.val * 8 + a.val, by omega⟩ = ∑ l, f l := by
  rw [Finset.sum_comm, ← sum_mul 16 8 f]
  refine Finset.sum_congr rfl fun x _ => Finset.sum_congr rfl fun a _ => congrArg f (Fin.ext ?_)
  show x.val * 8 + a.val = a.val + 8 * x.val
  omega

theorem sum_chan (f : Fin 2048 → EReal) : ∑ g : Fin 16, ∑ l : Fin 128, f (Spec.chan g l) = ∑ c, f c := by
  rw [← sum_mul 16 128 f]
  refine Finset.sum_congr rfl fun g _ => Finset.sum_congr rfl fun l _ => congrArg f (Fin.ext ?_)
  show 128 * g.val + l.val = l.val + 128 * g.val
  omega

/-! ## The stages -/

theorem sq8_at (v : Vec Ideal S1x128x128 .bf16) (a : Fin 8) (t : Fin 128) :
    sq8 v (ix2 a t) = ∑ x : Fin 16, v (ix3 0 ⟨x.val * 8 + a.val, by omega⟩ t) * v (ix3 0 ⟨x.val * 8 + a.val, by omega⟩ t) := by
  pointwise [sq8, up]

theorem sq8_sum (v : Vec Ideal S1x128x128 .bf16) (t : Fin 128) :
    ∑ a : Fin 8, sq8 v (ix2 a t) = ∑ l : Fin 128, v (ix3 0 l t) * v (ix3 0 l t) := by
  simp only [sq8_at]
  exact sum_rows fun l => v (ix3 0 l t) * v (ix3 0 l t)

theorem rinv8_at (s : FVec Ideal S8x128 .f32) (t : Fin 128) :
    rinv8 s (ix2 0 t) = Ideal.rsqrt ((∑ a, s (ix2 a t)) * Ideal.ofBits .f32 0x3A000000#32 + Ideal.ofBits .f32 0x358637BD#32) := by
  pointwise [rinv8]

theorem rinv_at (x : Fin 16 → Vec Ideal S1x128x128 .bf16) (t : Fin 128) (row : Fin 2048 → EReal)
    (h : ∀ g l, x g (ix3 0 l t) = row (Spec.chan g l)) : rinv x (ix2 0 t) = Spec.rinv row := by
  unfold rinv
  rw [rinv8_at, Spec.rinv]
  congr 3
  have hs : ∀ a : Fin 8, (addf (addf (addf (addf (addf (addf (addf (addf (addf (addf (addf (addf (addf (addf (addf (addf (broadcast S8x128 (Scalar.ofBits .f32 0x00000000#32)) (sq8 (x 0))) (sq8 (x 1))) (sq8 (x 2))) (sq8 (x 3))) (sq8 (x 4))) (sq8 (x 5))) (sq8 (x 6))) (sq8 (x 7))) (sq8 (x 8))) (sq8 (x 9))) (sq8 (x 10))) (sq8 (x 11))) (sq8 (x 12))) (sq8 (x 13))) (sq8 (x 14))) (sq8 (x 15)) : FVec Ideal S8x128 .f32) (ix2 a t) = ∑ g : Fin 16, sq8 (x g) (ix2 a t) := by
    intro a
    have hz : (broadcast S8x128 (Scalar.ofBits .f32 0x00000000#32) : FVec Ideal S8x128 .f32) (ix2 a t) = (0 : EReal) := by pointwise []
    simp only [Fin.sum_univ_castSucc, Fin.sum_univ_zero]
    rw [← hz]
    rfl
  simp only [hs]
  rw [Finset.sum_comm]
  simp only [sq8_sum, h]
  exact sum_chan fun c => row c * row c

theorem yv_at (r : FVec Ideal S1x128 .f32) (v : Vec Ideal S1x128x128 .bf16) (g : Vec Ideal S128x128 .f32) (l t : Fin 128) :
    yv r v g (ix2 l t) = v (ix3 0 l t) * r (ix2 0 t) * g (ix2 l t) := by
  pointwise [yv, up]

theorem step_at (cap : FVec Ideal S1x128 .f32) (b : BitVec 32) (ef : IVec S1x128 32) (j : S1x128.Idx) :
    step cap b ef j = Spec.step (cap j) b (ef j) := by
  pointwise [step]
  rfl

theorem expo_at (q : FVec Ideal S1x128 .f32) (j : S1x128.Idx) : expo q j = Spec.expo (q j) := by
  unfold expo Spec.expo
  have e (s : IVec S1x128 32) : select (cmpf .oeq q (broadcast S1x128 (Scalar.ofBits .f32 0x7F800000#32))) (broadcast S1x128 2139095040#32) s j
      = if q j = Ideal.ofBits .f32 0x7F800000#32 then 2139095040#32 else s j := by pointwise []
  rw [e]
  simp only [step_at]
  rfl

theorem plain_sel (ef a b : BitVec 32) :
    Scalar.select (IntOp.ori (IntOp.cmpi .eq ef 0#32) (IntOp.cmpi .eq ef 2139095040#32)) a b = if Spec.plain ef then a else b := by
  by_cases h0 : ef = 0#32
  · subst h0; rfl
  · by_cases h1 : ef = 2139095040#32
    · subst h1; rfl
    · rw [if_neg (show ¬ Spec.plain ef from fun h => h.elim h0 h1)]
      have e0 : IntOp.cmpi .eq ef 0#32 = 0#1 := by
        show BitVec.ofBool (ef == 0#32) = 0#1
        rw [beq_eq_false_iff_ne.mpr h0]; rfl
      have e1 : IntOp.cmpi .eq ef 2139095040#32 = 0#1 := by
        show BitVec.ofBool (ef == 2139095040#32) = 0#1
        rw [beq_eq_false_iff_ne.mpr h1]; rfl
      rw [e0, e1]; rfl

theorem word_at (q : FVec Ideal S1x128 .f32) (j : S1x128.Idx) : word (expo q) j = Spec.word (q j) := by
  unfold Spec.word
  rw [← expo_at]
  generalize expo q = ef
  pointwise [word, plain]
  exact plain_sel _ _ _

theorem iword_at (q : FVec Ideal S1x128 .f32) (j : S1x128.Idx) : iword (expo q) j = Spec.iword (q j) := by
  unfold Spec.iword
  rw [← expo_at]
  generalize expo q = ef
  pointwise [iword, plain]
  exact plain_sel _ _ _

theorem quot_at (v : FVec Ideal S128x128 .f32) (t : Fin 128) : quot v (ix2 0 t) = Spec.quot fun l => v (ix2 l t) := by
  pointwise [quot]
  rfl

theorem codesT_at (v : FVec Ideal S128x128 .f32) (l t : Fin 128) : codesT v (ix3 0 l t) = Spec.code (quot v (ix2 0 t)) (v (ix2 l t)) := by
  unfold Spec.code
  rw [← iword_at]
  pointwise [codesT, codes]

theorem codesN_at (v : FVec Ideal S128x128 .f32) (l t : Fin 128) : codesN v (ix3 0 t l) = Spec.code (quot v (ix2 0 t)) (v (ix2 l t)) := by
  unfold Spec.code
  rw [← iword_at]
  pointwise [codesN, codes]

theorem scaleR_at (v : FVec Ideal S128x128 .f32) (t : Fin 128) : scaleR v (ix3 0 0 t) = Ideal.ofBits .f32 (Spec.word (quot v (ix2 0 t))) := by
  rw [← word_at]
  pointwise [scaleR]

theorem concat_at (w : Fin 16 → IVec S1x128 32) (g : Fin 16) (t : Fin 128) :
    concatenate S16x128 0 [⟨S1x128, w 0⟩, ⟨S1x128, w 1⟩, ⟨S1x128, w 2⟩, ⟨S1x128, w 3⟩, ⟨S1x128, w 4⟩, ⟨S1x128, w 5⟩, ⟨S1x128, w 6⟩, ⟨S1x128, w 7⟩, ⟨S1x128, w 8⟩, ⟨S1x128, w 9⟩, ⟨S1x128, w 10⟩, ⟨S1x128, w 11⟩, ⟨S1x128, w 12⟩, ⟨S1x128, w 13⟩, ⟨S1x128, w 14⟩, ⟨S1x128, w 15⟩]
      concatenates_S1x128_S1x128_S1x128_S1x128_S1x128_S1x128_S1x128_S1x128_S1x128_S1x128_S1x128_S1x128_S1x128_S1x128_S1x128_S1x128_S16x128_d0 (ix2 g t) = w g (ix2 0 t) := by
  concat_tiles i h
  all_goals
    refine congr (congrArg w (Fin.ext h.symm)) (funext fun a => ?_)
    match a with
    | ⟨0, _⟩ => exact Fin.ext h0
    | ⟨1, _⟩ => exact Fin.ext h1

theorem bytes_at (W : IVec S16x128 32) (j : Fin 64) (t : Fin 128) :
    shapeCast S1x64x128 (bitcast S64x128 8 W bitcasts_S16x128_w32_S64x128_w8) shapeCasts_S64x128_S1x64x128 (ix3 0 j t)
      = Spec.byte (W (ix2 ⟨j.val / 4, by omega⟩ t)) (j.val % 4) := by
  pointwise []
  apply BitVec.eq_of_getLsbD_eq
  intro i hi
  rw [bitcast_getLsbD _ _ _ i hi (by decide), Spec.byte, BitVec.getLsbD_extractLsb']
  have e : bitcasts_S16x128_w32_S64x128_w8.srcIdx (ix2 j t) ((S64x128.row (ix2 j t) * 8 + i) / 32)
      (fun a ha => (Nat.div_lt_iff_lt_mul (by decide)).2 (bitcasts_S16x128_w32_S64x128_w8.pos_lt (ix2 j t) i hi a ha)) = ix2 ⟨j.val / 4, by omega⟩ t := by
    funext c
    match c with
    | ⟨0, _⟩ => exact Fin.ext ((bitcasts_S16x128_w32_S64x128_w8.srcIdx_row _ _ _ ⟨0, Nat.zero_lt_two⟩ rfl).trans (by show (j.val * 8 + i) / 32 = j.val / 4; omega))
    | ⟨1, _⟩ => exact Fin.ext (bitcasts_S16x128_w32_S64x128_w8.srcIdx_other _ _ _ ⟨1, Nat.one_lt_two⟩ (by show ¬ 1 + 2 = 2; omega))
  have en : (S64x128.row (ix2 j t) * 8 + i) % 32 = 8 * (j.val % 4) + i := by show (j.val * 8 + i) % 32 = _; omega
  rw [e, en, decide_eq_true hi, Bool.true_and]

theorem bytesR_at (w : Fin 16 → IVec S1x128 32) (j : Fin 64) (t : Fin 128) :
    bytesR w (ix3 0 j t) = Spec.byte (w ⟨j.val / 4, by omega⟩ (ix2 0 t)) (j.val % 4) := by
  unfold bytesR
  rw [bytes_at, concat_at w]

theorem ropeR_at (b : BitVec 32) (fr : Vec Ideal S32x128 .f32) (kr : Vec Ideal S1x64x128 .bf16) (j : Fin 64) (t : Fin 128) :
    ropeR b fr kr (ix3 0 j t) = Spec.rope (b + BitVec.ofNat 32 t.val) (fun i => fr (ix2 i t)) (fun i => kr (ix3 0 i t)) j := by
  unfold Spec.rope
  pointwise [ropeR]
  rfl

/-! ## What a trip loads -/

section Loads

variable (arg3 : Memref sig .tc .vmem S1x2112x512 .bf16) (h3 : arg3.IsWhole) (xb : Vec Ideal S1x2112x512 .bf16)
  (arg11 : Memref sig .tc .vmem S2048x128 .f32) (h11 : arg11.IsWhole) (gb : Vec Ideal S2048x128 .f32)

theorem off2 : ∀ k : Fin k0_t1_loop.trips, k0_off2 k = ![0, 0, 128 * k.val] := by decide +kernel
theorem off3 : ∀ k : Fin k0_t1_loop.trips, k0_off3 k = ![0, 128, 128 * k.val] := by decide +kernel
theorem off4 : ∀ k : Fin k0_t1_loop.trips, k0_off4 k = ![0, 256, 128 * k.val] := by decide +kernel
theorem off5 : ∀ k : Fin k0_t1_loop.trips, k0_off5 k = ![0, 384, 128 * k.val] := by decide +kernel
theorem off6 : ∀ k : Fin k0_t1_loop.trips, k0_off6 k = ![0, 512, 128 * k.val] := by decide +kernel
theorem off7 : ∀ k : Fin k0_t1_loop.trips, k0_off7 k = ![0, 640, 128 * k.val] := by decide +kernel
theorem off8 : ∀ k : Fin k0_t1_loop.trips, k0_off8 k = ![0, 768, 128 * k.val] := by decide +kernel
theorem off9 : ∀ k : Fin k0_t1_loop.trips, k0_off9 k = ![0, 896, 128 * k.val] := by decide +kernel
theorem off10 : ∀ k : Fin k0_t1_loop.trips, k0_off10 k = ![0, 1024, 128 * k.val] := by decide +kernel
theorem off11 : ∀ k : Fin k0_t1_loop.trips, k0_off11 k = ![0, 1152, 128 * k.val] := by decide +kernel
theorem off12 : ∀ k : Fin k0_t1_loop.trips, k0_off12 k = ![0, 1280, 128 * k.val] := by decide +kernel
theorem off13 : ∀ k : Fin k0_t1_loop.trips, k0_off13 k = ![0, 1408, 128 * k.val] := by decide +kernel
theorem off14 : ∀ k : Fin k0_t1_loop.trips, k0_off14 k = ![0, 1536, 128 * k.val] := by decide +kernel
theorem off15 : ∀ k : Fin k0_t1_loop.trips, k0_off15 k = ![0, 1664, 128 * k.val] := by decide +kernel
theorem off16 : ∀ k : Fin k0_t1_loop.trips, k0_off16 k = ![0, 1792, 128 * k.val] := by decide +kernel
theorem off17 : ∀ k : Fin k0_t1_loop.trips, k0_off17 k = ![0, 1920, 128 * k.val] := by decide +kernel
theorem off18 : ∀ k : Fin k0_t1_loop.trips, k0_off18 k = ![0, 0, 128 * k.val] := by decide +kernel
theorem off19 : ∀ k : Fin k0_t1_loop.trips, k0_off19 k = ![0, 0, 128 * k.val] := by decide +kernel
theorem off20 : ∀ k : Fin k0_t1_loop.trips, k0_off20 k = ![0, 128 * k.val, 0] := by decide +kernel
theorem off21 : ∀ k : Fin k0_t1_loop.trips, k0_off21 k = ![0, 1, 128 * k.val] := by decide +kernel
theorem off22 : ∀ k : Fin k0_t1_loop.trips, k0_off22 k = ![0, 128, 128 * k.val] := by decide +kernel
theorem off23 : ∀ k : Fin k0_t1_loop.trips, k0_off23 k = ![0, 128 * k.val, 128] := by decide +kernel
theorem off24 : ∀ k : Fin k0_t1_loop.trips, k0_off24 k = ![0, 2, 128 * k.val] := by decide +kernel
theorem off25 : ∀ k : Fin k0_t1_loop.trips, k0_off25 k = ![0, 256, 128 * k.val] := by decide +kernel
theorem off26 : ∀ k : Fin k0_t1_loop.trips, k0_off26 k = ![0, 128 * k.val, 256] := by decide +kernel
theorem off27 : ∀ k : Fin k0_t1_loop.trips, k0_off27 k = ![0, 3, 128 * k.val] := by decide +kernel
theorem off28 : ∀ k : Fin k0_t1_loop.trips, k0_off28 k = ![0, 384, 128 * k.val] := by decide +kernel
theorem off29 : ∀ k : Fin k0_t1_loop.trips, k0_off29 k = ![0, 128 * k.val, 384] := by decide +kernel
theorem off30 : ∀ k : Fin k0_t1_loop.trips, k0_off30 k = ![0, 4, 128 * k.val] := by decide +kernel
theorem off31 : ∀ k : Fin k0_t1_loop.trips, k0_off31 k = ![0, 512, 128 * k.val] := by decide +kernel
theorem off32 : ∀ k : Fin k0_t1_loop.trips, k0_off32 k = ![0, 128 * k.val, 512] := by decide +kernel
theorem off33 : ∀ k : Fin k0_t1_loop.trips, k0_off33 k = ![0, 5, 128 * k.val] := by decide +kernel
theorem off34 : ∀ k : Fin k0_t1_loop.trips, k0_off34 k = ![0, 640, 128 * k.val] := by decide +kernel
theorem off35 : ∀ k : Fin k0_t1_loop.trips, k0_off35 k = ![0, 128 * k.val, 640] := by decide +kernel
theorem off36 : ∀ k : Fin k0_t1_loop.trips, k0_off36 k = ![0, 6, 128 * k.val] := by decide +kernel
theorem off37 : ∀ k : Fin k0_t1_loop.trips, k0_off37 k = ![0, 768, 128 * k.val] := by decide +kernel
theorem off38 : ∀ k : Fin k0_t1_loop.trips, k0_off38 k = ![0, 128 * k.val, 768] := by decide +kernel
theorem off39 : ∀ k : Fin k0_t1_loop.trips, k0_off39 k = ![0, 7, 128 * k.val] := by decide +kernel
theorem off40 : ∀ k : Fin k0_t1_loop.trips, k0_off40 k = ![0, 896, 128 * k.val] := by decide +kernel
theorem off41 : ∀ k : Fin k0_t1_loop.trips, k0_off41 k = ![0, 128 * k.val, 896] := by decide +kernel
theorem off42 : ∀ k : Fin k0_t1_loop.trips, k0_off42 k = ![0, 8, 128 * k.val] := by decide +kernel
theorem off43 : ∀ k : Fin k0_t1_loop.trips, k0_off43 k = ![0, 1024, 128 * k.val] := by decide +kernel
theorem off44 : ∀ k : Fin k0_t1_loop.trips, k0_off44 k = ![0, 128 * k.val, 1024] := by decide +kernel
theorem off45 : ∀ k : Fin k0_t1_loop.trips, k0_off45 k = ![0, 9, 128 * k.val] := by decide +kernel
theorem off46 : ∀ k : Fin k0_t1_loop.trips, k0_off46 k = ![0, 1152, 128 * k.val] := by decide +kernel
theorem off47 : ∀ k : Fin k0_t1_loop.trips, k0_off47 k = ![0, 128 * k.val, 1152] := by decide +kernel
theorem off48 : ∀ k : Fin k0_t1_loop.trips, k0_off48 k = ![0, 10, 128 * k.val] := by decide +kernel
theorem off49 : ∀ k : Fin k0_t1_loop.trips, k0_off49 k = ![0, 1280, 128 * k.val] := by decide +kernel
theorem off50 : ∀ k : Fin k0_t1_loop.trips, k0_off50 k = ![0, 128 * k.val, 1280] := by decide +kernel
theorem off51 : ∀ k : Fin k0_t1_loop.trips, k0_off51 k = ![0, 11, 128 * k.val] := by decide +kernel
theorem off52 : ∀ k : Fin k0_t1_loop.trips, k0_off52 k = ![0, 1408, 128 * k.val] := by decide +kernel
theorem off53 : ∀ k : Fin k0_t1_loop.trips, k0_off53 k = ![0, 128 * k.val, 1408] := by decide +kernel
theorem off54 : ∀ k : Fin k0_t1_loop.trips, k0_off54 k = ![0, 12, 128 * k.val] := by decide +kernel
theorem off55 : ∀ k : Fin k0_t1_loop.trips, k0_off55 k = ![0, 1536, 128 * k.val] := by decide +kernel
theorem off56 : ∀ k : Fin k0_t1_loop.trips, k0_off56 k = ![0, 128 * k.val, 1536] := by decide +kernel
theorem off57 : ∀ k : Fin k0_t1_loop.trips, k0_off57 k = ![0, 13, 128 * k.val] := by decide +kernel
theorem off58 : ∀ k : Fin k0_t1_loop.trips, k0_off58 k = ![0, 1664, 128 * k.val] := by decide +kernel
theorem off59 : ∀ k : Fin k0_t1_loop.trips, k0_off59 k = ![0, 128 * k.val, 1664] := by decide +kernel
theorem off60 : ∀ k : Fin k0_t1_loop.trips, k0_off60 k = ![0, 14, 128 * k.val] := by decide +kernel
theorem off61 : ∀ k : Fin k0_t1_loop.trips, k0_off61 k = ![0, 1792, 128 * k.val] := by decide +kernel
theorem off62 : ∀ k : Fin k0_t1_loop.trips, k0_off62 k = ![0, 128 * k.val, 1792] := by decide +kernel
theorem off63 : ∀ k : Fin k0_t1_loop.trips, k0_off63 k = ![0, 15, 128 * k.val] := by decide +kernel
theorem off64 : ∀ k : Fin k0_t1_loop.trips, k0_off64 k = ![0, 1920, 128 * k.val] := by decide +kernel
theorem off65 : ∀ k : Fin k0_t1_loop.trips, k0_off65 k = ![0, 128 * k.val, 1920] := by decide +kernel
theorem off66 : ∀ k : Fin k0_t1_loop.trips, k0_off66 k = ![0, 0, 128 * k.val] := by decide +kernel
theorem off67 : ∀ k : Fin k0_t1_loop.trips, k0_off67 k = ![0, 2048, 128 * k.val] := by decide +kernel

end Loads

end Cert.KernelIdeal.Tile

end
-- ==== Proof.Block.lean ====
/- A trip's stores and a whole point's stores, as blocks of functions of the point's input block. -/
module

public import proofs.«01_k».proof.Proof.TileAt
public import Idealize.ShloMosaic.Lib.Pipeline.ReadBack
public import Idealize.ShloMosaic.Lib.Pipeline.ValueKit.Geometry

@[expose] public section

noncomputable section

namespace Cert.KernelIdeal.Tile

open Cert.KernelIdeal Cert.KernelIdeal.Gen
open Idealize.ShloMosaic Idealize.ShloMosaic.TcCoe Idealize.SL.Sem

set_option maxRecDepth 16384

theorem trips_le (k : Fin k0_t1_loop.trips) : k.val < 4 := lt_of_lt_of_le k.isLt k0_t1_abs.2.1

/-- The token of lane `t` of trip `k`, within its block. -/
def tok (k : Fin k0_t1_loop.trips) (t : Fin 128) : Fin 512 := ⟨128 * k.val + t.val, by have := trips_le k; omega⟩

/-! ## What a point leaves in each output's block, as a function of its rows -/

variable (x : Fin 512 → Fin 2048 → EReal) (γ : Fin 2048 → EReal)

/-- The codes, channels first. -/
def G3 : Vec Ideal S1x2048x512 .fp8e4m3 := fun y => Spec.code (Spec.q (x (y 2)) γ (Spec.grp (y 1))) (Spec.norm (x (y 2)) γ (y 1))
/-- The scales' bytes. -/
def G4 : Vec Ideal S1x64x512 .i8 := fun y => Spec.byte (Spec.word (Spec.q (x (y 2)) γ ⟨(y 1).val / 4, by have : (y 1).val < 64 := (y 1).isLt; omega⟩)) ((y 1).val % 4)
/-- The rotated keys. -/
def G5 (b : BitVec 32) (fr : Fin 32 → EReal) (kr : Fin 512 → Fin 64 → EReal) : Vec Ideal S1x64x512 .bf16 := fun y => Spec.rope (b + BitVec.ofNat 32 (y 2).val) fr (kr (y 2)) (y 1)
/-- The codes, tokens first. -/
def G6 : Vec Ideal S1x512x2048 .fp8e4m3 := fun y => Spec.code (Spec.q (x (y 1)) γ (Spec.grp (y 2))) (Spec.norm (x (y 1)) γ (y 2))
/-- The scales. -/
def G7 : Vec Ideal S1x16x512 .f32 := fun y => Ideal.ofBits .f32 (Spec.word (Spec.q (x (y 2)) γ (y 1)))

theorem grp_chan (g : Fin 16) (l : Fin 128) : Spec.grp (Spec.chan g l) = g := by
  apply Fin.ext; show (128 * g.val + l.val) / 128 = g.val; omega

theorem ext3 {a b c : ℕ} {u v : (⟨3, ![a, b, c]⟩ : Shape).Idx} (h0 : (u 0).val = (v 0).val) (h1 : (u 1).val = (v 1).val) (h2 : (u 2).val = (v 2).val) : u = v := by
  funext i
  match i with
  | ⟨0, _⟩ => exact Fin.ext h0
  | ⟨1, _⟩ => exact Fin.ext h1
  | ⟨2, _⟩ => exact Fin.ext h2

section Pieces

variable (k : Fin k0_t1_loop.trips) (yk : Fin 16 → FVec Ideal S128x128 .f32)
  (hy : ∀ g l t, yk g (ix2 l t) = Spec.norm (x (tok k t)) γ (Spec.chan g l))

include hy in
theorem quot_y (g : Fin 16) (t : Fin 128) : quot (yk g) (ix2 0 t) = Spec.q (x (tok k t)) γ g := by
  rw [quot_at]; unfold Spec.q; simp only [hy]

include hy in
theorem pieceT (g : Fin 16) (off : Fin 3 → ℕ) (inb) (h : off = ![0, 128 * g.val, 128 * k.val]) (j : S1x128x128.Idx) :
    codesT (yk g) j = G3 x γ ((Rect.unit (s := S1x2048x512) off S1x128x128.size inb).emb j) := by
  subst h
  obtain ⟨a, l, t, rfl⟩ : ∃ a l t, j = ix3 a l t := ⟨j 0, j 1, j 2, ext3 rfl rfl rfl⟩
  obtain rfl : a = 0 := Subsingleton.elim _ _
  rw [codesT_at, quot_y x γ k yk hy, hy]
  have e : (Rect.unit (s := S1x2048x512) ![0, 128 * g.val, 128 * k.val] S1x128x128.size inb).emb (ix3 0 l t) = ix3 0 (Spec.chan g l) (tok k t) := by
    refine ext3 ?_ ?_ ?_ <;> rw [ValueKit.rect_emb_unit_val] <;> rfl
  rw [e]
  show _ = Spec.code (Spec.q (x (tok k t)) γ (Spec.grp (Spec.chan g l))) (Spec.norm (x (tok k t)) γ (Spec.chan g l))
  rw [grp_chan]

include hy in
theorem pieceN (g : Fin 16) (off : Fin 3 → ℕ) (inb) (h : off = ![0, 128 * k.val, 128 * g.val]) (j : S1x128x128.Idx) :
    codesN (yk g) j = G6 x γ ((Rect.unit (s := S1x512x2048) off S1x128x128.size inb).emb j) := by
  subst h
  obtain ⟨a, t, l, rfl⟩ : ∃ a t l, j = ix3 a t l := ⟨j 0, j 1, j 2, ext3 rfl rfl rfl⟩
  obtain rfl : a = 0 := Subsingleton.elim _ _
  rw [codesN_at, quot_y x γ k yk hy, hy]
  have e : (Rect.unit (s := S1x512x2048) ![0, 128 * k.val, 128 * g.val] S1x128x128.size inb).emb (ix3 0 t l) = ix3 0 (tok k t) (Spec.chan g l) := by
    refine ext3 ?_ ?_ ?_ <;> rw [ValueKit.rect_emb_unit_val] <;> rfl
  rw [e]
  show _ = Spec.code (Spec.q (x (tok k t)) γ (Spec.grp (Spec.chan g l))) (Spec.norm (x (tok k t)) γ (Spec.chan g l))
  rw [grp_chan]

include hy in
theorem pieceS (g : Fin 16) (off : Fin 3 → ℕ) (inb) (h : off = ![0, g.val, 128 * k.val]) (j : S1x1x128.Idx) :
    scaleR (yk g) j = G7 x γ ((Rect.unit (s := S1x16x512) off S1x1x128.size inb).emb j) := by
  subst h
  obtain ⟨a, b, t, rfl⟩ : ∃ a b t, j = ix3 a b t := ⟨j 0, j 1, j 2, ext3 rfl rfl rfl⟩
  obtain rfl : a = 0 := Subsingleton.elim _ _
  obtain rfl : b = 0 := Subsingleton.elim _ _
  rw [scaleR_at, quot_y x γ k yk hy]
  have e : (Rect.unit (s := S1x16x512) ![0, g.val, 128 * k.val] S1x1x128.size inb).emb (ix3 0 0 t) = ix3 0 g (tok k t) := by
    refine ext3 ?_ ?_ ?_ <;> rw [ValueKit.rect_emb_unit_val] <;> rfl
  rw [e]
  rfl

include hy in
theorem pieceB (off : Fin 3 → ℕ) (inb) (h : off = ![0, 0, 128 * k.val]) (j : S1x64x128.Idx) :
    bytesR (fun g => word (expo (quot (yk g)))) j = G4 x γ ((Rect.unit (s := S1x64x512) off S1x64x128.size inb).emb j) := by
  subst h
  obtain ⟨a, b, t, rfl⟩ : ∃ a b t, j = ix3 a b t := ⟨j 0, j 1, j 2, ext3 rfl rfl rfl⟩
  obtain rfl : a = 0 := Subsingleton.elim _ _
  rw [bytesR_at, word_at, quot_y x γ k yk hy]
  have e : (Rect.unit (s := S1x64x512) ![0, 0, 128 * k.val] S1x64x128.size inb).emb (ix3 0 b t) = ix3 0 b (tok k t) := by
    refine ext3 ?_ ?_ ?_ <;> rw [ValueKit.rect_emb_unit_val]
    · rfl
    · show 0 + b.val = b.val; omega
    · rfl
  rw [e]
  rfl

theorem pieceR (b0 b : BitVec 32) (fr : Fin 32 → EReal) (kr : Fin 512 → Fin 64 → EReal) (frv : Vec Ideal S32x128 .f32) (krv : Vec Ideal S1x64x128 .bf16)
    (hb : b = b0 + BitVec.ofNat 32 (128 * k.val)) (hf : ∀ i t, frv (ix2 i t) = fr i) (hk : ∀ i t, krv (ix3 0 i t) = kr (tok k t) i)
    (off : Fin 3 → ℕ) (inb) (h : off = ![0, 0, 128 * k.val]) (j : S1x64x128.Idx) :
    ropeR b frv krv j = G5 b0 fr kr ((Rect.unit (s := S1x64x512) off S1x64x128.size inb).emb j) := by
  subst h
  obtain ⟨a, i, t, rfl⟩ : ∃ a b t, j = ix3 a b t := ⟨j 0, j 1, j 2, ext3 rfl rfl rfl⟩
  obtain rfl : a = 0 := Subsingleton.elim _ _
  rw [ropeR_at]
  have e : (Rect.unit (s := S1x64x512) ![0, 0, 128 * k.val] S1x64x128.size inb).emb (ix3 0 i t) = ix3 0 i (tok k t) := by
    refine ext3 ?_ ?_ ?_ <;> rw [ValueKit.rect_emb_unit_val]
    · rfl
    · show 0 + i.val = i.val; omega
    · rfl
  rw [e]
  simp only [hf, hk]
  have e2 : b + BitVec.ofNat 32 t.val = b0 + BitVec.ofNat 32 (tok k t).val := by
    rw [hb, BitVec.add_assoc]
    congr 1
    show _ = BitVec.ofNat 32 (128 * k.val + t.val)
    rw [BitVec.ofNat_add]
  rw [e2]
  rfl

end Pieces

theorem piecesOf_append {s : Shape} {e : EltTy} {G : s.Idx → Elt Ideal e} : ∀ {L L' : List (View.Piece (Elt Ideal) s e)},
    View.PiecesOf G L → View.PiecesOf G L' → View.PiecesOf G (L ++ L')
  | [], _, _, h' => h'
  | _ :: _, _, h, h' => ⟨h.1, piecesOf_append h.2 h'⟩

/-! ## The trips of a point -/

section Trips

variable (𝒱 : Variants) (c : Dev nD) (bd : Option 𝒱.V) (i : grid0.Coords) (arg2 : Memref sig .tc .smem S2 .i32) (harg2 : arg2.IsWhole) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (arg1 : BitVec 32) (v6 : Elt Ideal .i32) (X_arg3 : BufTy.Contents (Elt Ideal) arg3.view.ty) (X_arg5 : BufTy.Contents (Elt Ideal) arg5.view.ty) (X_arg11 : BufTy.Contents (Elt Ideal) arg11.view.ty)

/-- What the trips' loads read: the point's rows, the scale vector, the frequencies. -/
structure Loads (x : Fin 512 → Fin 2048 → EReal) (γ : Fin 2048 → EReal) (fr : Fin 32 → EReal) (kr : Fin 512 → Fin 64 → EReal) : Prop where
  hx : ∀ k g l t, xt arg3 X_arg3 k g (ix3 0 l t) = x (tok k t) (Spec.chan g l)
  hg : ∀ g l t, gt arg11 X_arg11 g (ix2 l t) = γ (Spec.chan g l)
  hf : ∀ i t, (View.readAt (Elt Ideal) arg5.view (Rect.unit (s := S32x128) ![0, 0] S32x128.size inb_S32x128_S32x128_0_0).toLoadRect X_arg5 : Vec Ideal S32x128 .f32) (ix2 i t) = fr i
  hk : ∀ k i t, (View.readAt (Elt Ideal) arg3.view (Rect.unit (s := S1x2112x512) (k0_off67 k) S1x64x128.size (k0_off67_inb k)).toLoadRect X_arg3 : Vec Ideal S1x64x128 .bf16) (ix3 0 i t) = kr (tok k t) i

variable {fr : Fin 32 → EReal} {kr : Fin 512 → Fin 64 → EReal} (H : Loads arg3 arg5 arg11 X_arg3 X_arg5 X_arg11 x γ fr kr)

include H in
theorem yt_at (k : Fin k0_t1_loop.trips) (g : Fin 16) (l t : Fin 128) :
    yt arg3 X_arg3 arg11 X_arg11 k g (ix2 l t) = Spec.norm (x (tok k t)) γ (Spec.chan g l) := by
  unfold yt Spec.norm
  rw [yv_at, r_eq, rinv_at _ t (x (tok k t)) (fun g l => H.hx k g l t), H.hx, H.hg]

theorem base_eq (k : Fin k0_t1_loop.trips) : base arg1 v6 k = v6 + arg1 * 512#32 + BitVec.ofNat 32 (128 * k.val) := by
  unfold base
  have h : ∀ k : Fin k0_t1_loop.trips, Scalar.muli (Scalar.addi 0#32 (Scalar.muli (Scf.iv 0#32 1#32 k.val) 1#32)) 128#32 = BitVec.ofNat 32 (128 * k.val) := by decide +kernel
  rw [h]
  rfl

include H in
theorem trip_codesT (k : Fin k0_t1_loop.trips) : View.PiecesOf (G3 x γ) (trip_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 k).1 := by
  rw [tripL_codesT]
  have hy := yt_at x γ arg3 arg5 arg11 X_arg3 X_arg5 X_arg11 H k
  exact ⟨pieceT x γ k _ hy 15 _ (k0_off64_inb k) (off64 k), pieceT x γ k _ hy 14 _ (k0_off61_inb k) (off61 k), pieceT x γ k _ hy 13 _ (k0_off58_inb k) (off58 k), pieceT x γ k _ hy 12 _ (k0_off55_inb k) (off55 k), pieceT x γ k _ hy 11 _ (k0_off52_inb k) (off52 k), pieceT x γ k _ hy 10 _ (k0_off49_inb k) (off49 k), pieceT x γ k _ hy 9 _ (k0_off46_inb k) (off46 k), pieceT x γ k _ hy 8 _ (k0_off43_inb k) (off43 k), pieceT x γ k _ hy 7 _ (k0_off40_inb k) (off40 k), pieceT x γ k _ hy 6 _ (k0_off37_inb k) (off37 k), pieceT x γ k _ hy 5 _ (k0_off34_inb k) (off34 k), pieceT x γ k _ hy 4 _ (k0_off31_inb k) (off31 k), pieceT x γ k _ hy 3 _ (k0_off28_inb k) (off28 k), pieceT x γ k _ hy 2 _ (k0_off25_inb k) (off25 k), pieceT x γ k _ hy 1 _ (k0_off22_inb k) (off22 k), pieceT x γ k _ hy 0 _ (k0_off19_inb k) (off19 k), trivial⟩

include H in
theorem pb_codesT : ∀ n ≤ k0_t1_loop.trips, View.PiecesOf (G3 x γ) (pb_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 n).1
  | 0, _ => trivial
  | n + 1, h => by
    have e := pb_k0_t1_succ (F := Ideal) 𝒱 c bd i arg2 harg2 arg3 harg3 arg4 harg4 arg5 harg5 arg6 harg6 arg7 harg7 arg8 harg8 arg9 harg9 arg10 harg10 arg11 harg11 arg1 v6 X_arg3 X_arg5 X_arg11 ⟨n, h⟩
    dsimp only at e
    rw [e]
    exact piecesOf_append (trip_codesT x γ 𝒱 c bd i arg2 harg2 arg3 harg3 arg4 harg4 arg5 harg5 arg6 harg6 arg7 harg7 arg8 harg8 arg9 harg9 arg10 harg10 arg11 harg11 arg1 v6 X_arg3 X_arg5 X_arg11 H ⟨n, h⟩) (pb_codesT n (Nat.le_of_succ_le h))

include H in
theorem trip_bytes (k : Fin k0_t1_loop.trips) : View.PiecesOf (G4 x γ) (trip_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 k).2.1 := by
  rw [tripL_bytes]
  exact ⟨pieceB x γ k _ (yt_at x γ arg3 arg5 arg11 X_arg3 X_arg5 X_arg11 H k) _ (k0_off66_inb k) (off66 k), trivial⟩

include H in
theorem pb_bytes : ∀ n ≤ k0_t1_loop.trips, View.PiecesOf (G4 x γ) (pb_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 n).2.1
  | 0, _ => trivial
  | n + 1, h => by
    have e := pb_k0_t1_succ (F := Ideal) 𝒱 c bd i arg2 harg2 arg3 harg3 arg4 harg4 arg5 harg5 arg6 harg6 arg7 harg7 arg8 harg8 arg9 harg9 arg10 harg10 arg11 harg11 arg1 v6 X_arg3 X_arg5 X_arg11 ⟨n, h⟩
    dsimp only at e
    rw [e]
    exact piecesOf_append (trip_bytes x γ 𝒱 c bd i arg2 harg2 arg3 harg3 arg4 harg4 arg5 harg5 arg6 harg6 arg7 harg7 arg8 harg8 arg9 harg9 arg10 harg10 arg11 harg11 arg1 v6 X_arg3 X_arg5 X_arg11 H ⟨n, h⟩) (pb_bytes n (Nat.le_of_succ_le h))

include H in
theorem trip_rope (k : Fin k0_t1_loop.trips) : View.PiecesOf (G5 (v6 + arg1 * 512#32) fr kr) (trip_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 k).2.2.1 := by
  rw [tripL_rope]
  exact ⟨pieceR k _ _ fr kr _ _ (base_eq arg1 v6 k) H.hf (H.hk k) _ (k0_off66_inb k) (off66 k), trivial⟩

include H in
theorem pb_rope : ∀ n ≤ k0_t1_loop.trips, View.PiecesOf (G5 (v6 + arg1 * 512#32) fr kr) (pb_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 n).2.2.1
  | 0, _ => trivial
  | n + 1, h => by
    have e := pb_k0_t1_succ (F := Ideal) 𝒱 c bd i arg2 harg2 arg3 harg3 arg4 harg4 arg5 harg5 arg6 harg6 arg7 harg7 arg8 harg8 arg9 harg9 arg10 harg10 arg11 harg11 arg1 v6 X_arg3 X_arg5 X_arg11 ⟨n, h⟩
    dsimp only at e
    rw [e]
    exact piecesOf_append (trip_rope x γ 𝒱 c bd i arg2 harg2 arg3 harg3 arg4 harg4 arg5 harg5 arg6 harg6 arg7 harg7 arg8 harg8 arg9 harg9 arg10 harg10 arg11 harg11 arg1 v6 X_arg3 X_arg5 X_arg11 H ⟨n, h⟩) (pb_rope n (Nat.le_of_succ_le h))

include H in
theorem trip_codesN (k : Fin k0_t1_loop.trips) : View.PiecesOf (G6 x γ) (trip_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 k).2.2.2.1 := by
  rw [tripL_codesN]
  have hy := yt_at x γ arg3 arg5 arg11 X_arg3 X_arg5 X_arg11 H k
  exact ⟨pieceN x γ k _ hy 15 _ (k0_off65_inb k) (off65 k), pieceN x γ k _ hy 14 _ (k0_off62_inb k) (off62 k), pieceN x γ k _ hy 13 _ (k0_off59_inb k) (off59 k), pieceN x γ k _ hy 12 _ (k0_off56_inb k) (off56 k), pieceN x γ k _ hy 11 _ (k0_off53_inb k) (off53 k), pieceN x γ k _ hy 10 _ (k0_off50_inb k) (off50 k), pieceN x γ k _ hy 9 _ (k0_off47_inb k) (off47 k), pieceN x γ k _ hy 8 _ (k0_off44_inb k) (off44 k), pieceN x γ k _ hy 7 _ (k0_off41_inb k) (off41 k), pieceN x γ k _ hy 6 _ (k0_off38_inb k) (off38 k), pieceN x γ k _ hy 5 _ (k0_off35_inb k) (off35 k), pieceN x γ k _ hy 4 _ (k0_off32_inb k) (off32 k), pieceN x γ k _ hy 3 _ (k0_off29_inb k) (off29 k), pieceN x γ k _ hy 2 _ (k0_off26_inb k) (off26 k), pieceN x γ k _ hy 1 _ (k0_off23_inb k) (off23 k), pieceN x γ k _ hy 0 _ (k0_off20_inb k) (off20 k), trivial⟩

include H in
theorem pb_codesN : ∀ n ≤ k0_t1_loop.trips, View.PiecesOf (G6 x γ) (pb_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 n).2.2.2.1
  | 0, _ => trivial
  | n + 1, h => by
    have e := pb_k0_t1_succ (F := Ideal) 𝒱 c bd i arg2 harg2 arg3 harg3 arg4 harg4 arg5 harg5 arg6 harg6 arg7 harg7 arg8 harg8 arg9 harg9 arg10 harg10 arg11 harg11 arg1 v6 X_arg3 X_arg5 X_arg11 ⟨n, h⟩
    dsimp only at e
    rw [e]
    exact piecesOf_append (trip_codesN x γ 𝒱 c bd i arg2 harg2 arg3 harg3 arg4 harg4 arg5 harg5 arg6 harg6 arg7 harg7 arg8 harg8 arg9 harg9 arg10 harg10 arg11 harg11 arg1 v6 X_arg3 X_arg5 X_arg11 H ⟨n, h⟩) (pb_codesN n (Nat.le_of_succ_le h))

include H in
theorem trip_scale (k : Fin k0_t1_loop.trips) : View.PiecesOf (G7 x γ) (trip_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 k).2.2.2.2.1 := by
  rw [tripL_scale]
  have hy := yt_at x γ arg3 arg5 arg11 X_arg3 X_arg5 X_arg11 H k
  exact ⟨pieceS x γ k _ hy 15 _ (k0_off63_inb k) (off63 k), pieceS x γ k _ hy 14 _ (k0_off60_inb k) (off60 k), pieceS x γ k _ hy 13 _ (k0_off57_inb k) (off57 k), pieceS x γ k _ hy 12 _ (k0_off54_inb k) (off54 k), pieceS x γ k _ hy 11 _ (k0_off51_inb k) (off51 k), pieceS x γ k _ hy 10 _ (k0_off48_inb k) (off48 k), pieceS x γ k _ hy 9 _ (k0_off45_inb k) (off45 k), pieceS x γ k _ hy 8 _ (k0_off42_inb k) (off42 k), pieceS x γ k _ hy 7 _ (k0_off39_inb k) (off39 k), pieceS x γ k _ hy 6 _ (k0_off36_inb k) (off36 k), pieceS x γ k _ hy 5 _ (k0_off33_inb k) (off33 k), pieceS x γ k _ hy 4 _ (k0_off30_inb k) (off30 k), pieceS x γ k _ hy 3 _ (k0_off27_inb k) (off27 k), pieceS x γ k _ hy 2 _ (k0_off24_inb k) (off24 k), pieceS x γ k _ hy 1 _ (k0_off21_inb k) (off21 k), pieceS x γ k _ hy 0 _ (k0_off18_inb k) (off18 k), trivial⟩

include H in
theorem pb_scale : ∀ n ≤ k0_t1_loop.trips, View.PiecesOf (G7 x γ) (pb_k0_t1 (F := Ideal) 𝒱 c bd i arg2 harg2 arg3 harg3 arg4 harg4 arg5 harg5 arg6 harg6 arg7 harg7 arg8 harg8 arg9 harg9 arg10 harg10 arg11 harg11 arg1 v6 X_arg3 X_arg5 X_arg11 n).2.2.2.2
  | 0, _ => trivial
  | n + 1, h => by
    have e := pb_k0_t1_succ (F := Ideal) 𝒱 c bd i arg2 harg2 arg3 harg3 arg4 harg4 arg5 harg5 arg6 harg6 arg7 harg7 arg8 harg8 arg9 harg9 arg10 harg10 arg11 harg11 arg1 v6 X_arg3 X_arg5 X_arg11 ⟨n, h⟩
    dsimp only at e
    rw [e]
    exact piecesOf_append (trip_scale x γ 𝒱 c bd i arg2 harg2 arg3 harg3 arg4 harg4 arg5 harg5 arg6 harg6 arg7 harg7 arg8 harg8 arg9 harg9 arg10 harg10 arg11 harg11 arg1 v6 X_arg3 X_arg5 X_arg11 H ⟨n, h⟩) (pb_scale n (Nat.le_of_succ_le h))

end Trips

end Cert.KernelIdeal.Tile

end
-- ==== Proof.Point.lean ====
/- What a point leaves in each output's block and in the scratch: the outputs' functions of the point's rows, whichever case the point is in. -/
module

public import proofs.«01_k».proof.Proof.Block
public import proofs.«01_k».proof.Proof.Gen.KernelIdeal.Frame
public import Idealize.ShloMosaic.Lib.Pipeline.Value
public import Idealize.ShloMosaic.Lib.Tactic

@[expose] public section

noncomputable section

namespace Cert.KernelIdeal.Tile

open Cert.KernelIdeal Cert.KernelIdeal.Gen
open Idealize.ShloMosaic Idealize.ShloMosaic.TcCoe Idealize.SL.Sem

set_option maxRecDepth 16384

/-! ## A point's rows, read off its blocks -/

/-- The latent channels of a token of the block. -/
def row (x0 : Vec Ideal S1x2112x512 .bf16) (t : Fin 512) (c : Fin 2048) : EReal := x0 (ix3 0 ⟨c.val, by omega⟩ t)
/-- The rotary channels of a token of the block. -/
def rkey (x0 : Vec Ideal S1x2112x512 .bf16) (t : Fin 512) (i : Fin 64) : EReal := x0 (ix3 0 ⟨2048 + i.val, by omega⟩ t)
/-- The scale vector of the norm, from its sixteen rows. -/
def gam (x1 : Vec Ideal S16x128 .f32) (c : Fin 2048) : EReal := x1 (ix2 ⟨c.val / 128, by omega⟩ ⟨c.val % 128, by omega⟩)
/-- The frequencies, the same in every lane. -/
def frq (x2 : Vec Ideal S32x128 .f32) (i : Fin 32) : EReal := x2 (ix2 i 0)
/-- The scratch once filled: the norm's scale, along the lanes. -/
def Gs (γ : Fin 2048 → EReal) : Vec Ideal S2048x128 .f32 := fun y => γ (y 0)

theorem gam_chan (x1 : Vec Ideal S16x128 .f32) (g : Fin 16) (l : Fin 128) : gam x1 (Spec.chan g l) = x1 (ix2 g l) := by
  unfold gam
  congr 2 <;> apply Fin.ext
  · show (128 * g.val + l.val) / 128 = g.val; omega
  · show (128 * g.val + l.val) % 128 = l.val; omega

theorem ext2 {a b : ℕ} {u v : (⟨2, ![a, b]⟩ : Shape).Idx} (h0 : (u 0).val = (v 0).val) (h1 : (u 1).val = (v 1).val) : u = v := by
  funext i
  match i with
  | ⟨0, _⟩ => exact Fin.ext h0
  | ⟨1, _⟩ => exact Fin.ext h1

theorem ld3 (X : Vec Ideal S1x2112x512 .bf16) {n : ℕ} (off : Fin 3 → ℕ) (inb) (a b : ℕ) (h : off = ![0, a, b]) (l : Fin n) (t : Fin 128) (u : Fin 2112) (v : Fin 512)
    (hu : u.val = a + l.val) (hv : v.val = b + t.val) :
    View.ld (Val := Elt Ideal) (e' := .bf16) X (Rect.unit (s := S1x2112x512) off ![1, n, 128] inb) (ix3 0 l t) = X (ix3 0 u v) := by
  subst h
  refine View.ld_unit_apply_of X _ _ _ _ _ fun i => ?_
  match i with
  | ⟨0, _⟩ => rfl
  | ⟨1, _⟩ => exact hu
  | ⟨2, _⟩ => exact hv

theorem ld2 {p q n m : ℕ} (X : Vec Ideal ⟨2, ![p, q]⟩ .f32) (off : Fin 2 → ℕ) (inb) (a b : ℕ) (h : off = ![a, b]) (l : Fin n) (t : Fin m) (u : Fin p) (v : Fin q)
    (hu : u.val = a + l.val) (hv : v.val = b + t.val) :
    View.ld (Val := Elt Ideal) (e' := .f32) X (Rect.unit (s := ⟨2, ![p, q]⟩) off ![n, m] inb) (ix2 l t) = X (ix2 u v) := by
  subst h
  refine View.ld_unit_apply_of X _ _ _ _ _ fun i => ?_
  match i with
  | ⟨0, _⟩ => exact hu
  | ⟨1, _⟩ => exact hv

theorem rd3 (arg3 : Memref sig .tc .vmem S1x2112x512 .bf16) (X3 : BufTy.Contents (Elt Ideal) arg3.view.ty) (x0 : Vec Ideal S1x2112x512 .bf16)
    (h3 : arg3.view.read (Elt Ideal) X3 = x0) {n : ℕ} (off : Fin 3 → ℕ) (inb) (a b : ℕ) (h : off = ![0, a, b]) (l : Fin n) (t : Fin 128) (u : Fin 2112) (v : Fin 512)
    (hu : u.val = a + l.val) (hv : v.val = b + t.val) :
    View.readAt (Elt Ideal) arg3.view (Rect.unit (s := S1x2112x512) off ![1, n, 128] inb).toLoadRect X3 (ix3 0 l t) = x0 (ix3 0 u v) := by
  rw [View.readAt_eq_ld, h3]; exact ld3 x0 off inb a b h l t u v hu hv

theorem rd2 {p q n m : ℕ} (M : Memref sig .tc .vmem ⟨2, ![p, q]⟩ .f32) (X : BufTy.Contents (Elt Ideal) M.view.ty) (x0 : Vec Ideal ⟨2, ![p, q]⟩ .f32)
    (h3 : M.view.read (Elt Ideal) X = x0) (off : Fin 2 → ℕ) (inb) (a b : ℕ) (h : off = ![a, b]) (l : Fin n) (t : Fin m) (u : Fin p) (v : Fin q)
    (hu : u.val = a + l.val) (hv : v.val = b + t.val) :
    View.readAt (Elt Ideal) M.view (Rect.unit (s := ⟨2, ![p, q]⟩) off ![n, m] inb).toLoadRect X (ix2 l t) = x0 (ix2 u v) := by
  rw [View.readAt_eq_ld, h3]; exact ld2 x0 off inb a b h l t u v hu hv

theorem forall16 {P : Fin 16 → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) : ∀ g, P g :=
  fun g => match g with | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7 | ⟨8, _⟩ => h8 | ⟨9, _⟩ => h9 | ⟨10, _⟩ => h10 | ⟨11, _⟩ => h11 | ⟨12, _⟩ => h12 | ⟨13, _⟩ => h13 | ⟨14, _⟩ => h14 | ⟨15, _⟩ => h15 | ⟨_ + 16, h⟩ => absurd h (by omega)

set_option maxHeartbeats 4000000 in
theorem loads (arg3 : Memref sig .tc .vmem S1x2112x512 .bf16) (arg5 : Memref sig .tc .vmem S32x128 .f32) (arg11 : Memref sig .tc .vmem S2048x128 .f32)
    (X3 : BufTy.Contents (Elt Ideal) arg3.view.ty) (X5 : BufTy.Contents (Elt Ideal) arg5.view.ty) (X11 : BufTy.Contents (Elt Ideal) arg11.view.ty)
    (x0 : Vec Ideal S1x2112x512 .bf16) (x2 : Vec Ideal S32x128 .f32) (γ : Fin 2048 → EReal)
    (h3 : arg3.view.read (Elt Ideal) X3 = x0) (h5 : arg5.view.read (Elt Ideal) X5 = x2) (h11 : arg11.view.read (Elt Ideal) X11 = Gs γ)
    (h2 : ∀ i t, x2 (ix2 i t) = frq x2 i) : Loads arg3 arg5 arg11 X3 X5 X11 (row x0) γ (frq x2) (rkey x0) where
  hx k := forall16

    (fun l t => rd3 arg3 X3 x0 h3 _ (k0_off2_inb k) _ _ (off2 k) l t ⟨(Spec.chan 0 l).val, by omega⟩ (tok k t) rfl rfl)
    (fun l t => rd3 arg3 X3 x0 h3 _ (k0_off3_inb k) _ _ (off3 k) l t ⟨(Spec.chan 1 l).val, by omega⟩ (tok k t) rfl rfl)
    (fun l t => rd3 arg3 X3 x0 h3 _ (k0_off4_inb k) _ _ (off4 k) l t ⟨(Spec.chan 2 l).val, by omega⟩ (tok k t) rfl rfl)
    (fun l t => rd3 arg3 X3 x0 h3 _ (k0_off5_inb k) _ _ (off5 k) l t ⟨(Spec.chan 3 l).val, by omega⟩ (tok k t) rfl rfl)
    (fun l t => rd3 arg3 X3 x0 h3 _ (k0_off6_inb k) _ _ (off6 k) l t ⟨(Spec.chan 4 l).val, by omega⟩ (tok k t) rfl rfl)
    (fun l t => rd3 arg3 X3 x0 h3 _ (k0_off7_inb k) _ _ (off7 k) l t ⟨(Spec.chan 5 l).val, by omega⟩ (tok k t) rfl rfl)
    (fun l t => rd3 arg3 X3 x0 h3 _ (k0_off8_inb k) _ _ (off8 k) l t ⟨(Spec.chan 6 l).val, by omega⟩ (tok k t) rfl rfl)
    (fun l t => rd3 arg3 X3 x0 h3 _ (k0_off9_inb k) _ _ (off9 k) l t ⟨(Spec.chan 7 l).val, by omega⟩ (tok k t) rfl rfl)
    (fun l t => rd3 arg3 X3 x0 h3 _ (k0_off10_inb k) _ _ (off10 k) l t ⟨(Spec.chan 8 l).val, by omega⟩ (tok k t) rfl rfl)
    (fun l t => rd3 arg3 X3 x0 h3 _ (k0_off11_inb k) _ _ (off11 k) l t ⟨(Spec.chan 9 l).val, by omega⟩ (tok k t) rfl rfl)
    (fun l t => rd3 arg3 X3 x0 h3 _ (k0_off12_inb k) _ _ (off12 k) l t ⟨(Spec.chan 10 l).val, by omega⟩ (tok k t) rfl rfl)
    (fun l t => rd3 arg3 X3 x0 h3 _ (k0_off13_inb k) _ _ (off13 k) l t ⟨(Spec.chan 11 l).val, by omega⟩ (tok k t) rfl rfl)
    (fun l t => rd3 arg3 X3 x0 h3 _ (k0_off14_inb k) _ _ (off14 k) l t ⟨(Spec.chan 12 l).val, by omega⟩ (tok k t) rfl rfl)
    (fun l t => rd3 arg3 X3 x0 h3 _ (k0_off15_inb k) _ _ (off15 k) l t ⟨(Spec.chan 13 l).val, by omega⟩ (tok k t) rfl rfl)
    (fun l t => rd3 arg3 X3 x0 h3 _ (k0_off16_inb k) _ _ (off16 k) l t ⟨(Spec.chan 14 l).val, by omega⟩ (tok k t) rfl rfl)
    (fun l t => rd3 arg3 X3 x0 h3 _ (k0_off17_inb k) _ _ (off17 k) l t ⟨(Spec.chan 15 l).val, by omega⟩ (tok k t) rfl rfl)
  hg := forall16

    (fun l t => rd2 arg11 X11 (Gs γ) h11 _ inb_S2048x128_S128x128_0_0 _ _ rfl l t (Spec.chan 0 l) t rfl (Nat.zero_add _).symm)
    (fun l t => rd2 arg11 X11 (Gs γ) h11 _ inb_S2048x128_S128x128_128_0 _ _ rfl l t (Spec.chan 1 l) t rfl (Nat.zero_add _).symm)
    (fun l t => rd2 arg11 X11 (Gs γ) h11 _ inb_S2048x128_S128x128_256_0 _ _ rfl l t (Spec.chan 2 l) t rfl (Nat.zero_add _).symm)
    (fun l t => rd2 arg11 X11 (Gs γ) h11 _ inb_S2048x128_S128x128_384_0 _ _ rfl l t (Spec.chan 3 l) t rfl (Nat.zero_add _).symm)
    (fun l t => rd2 arg11 X11 (Gs γ) h11 _ inb_S2048x128_S128x128_512_0 _ _ rfl l t (Spec.chan 4 l) t rfl (Nat.zero_add _).symm)
    (fun l t => rd2 arg11 X11 (Gs γ) h11 _ inb_S2048x128_S128x128_640_0 _ _ rfl l t (Spec.chan 5 l) t rfl (Nat.zero_add _).symm)
    (fun l t => rd2 arg11 X11 (Gs γ) h11 _ inb_S2048x128_S128x128_768_0 _ _ rfl l t (Spec.chan 6 l) t rfl (Nat.zero_add _).symm)
    (fun l t => rd2 arg11 X11 (Gs γ) h11 _ inb_S2048x128_S128x128_896_0 _ _ rfl l t (Spec.chan 7 l) t rfl (Nat.zero_add _).symm)
    (fun l t => rd2 arg11 X11 (Gs γ) h11 _ inb_S2048x128_S128x128_1024_0 _ _ rfl l t (Spec.chan 8 l) t rfl (Nat.zero_add _).symm)
    (fun l t => rd2 arg11 X11 (Gs γ) h11 _ inb_S2048x128_S128x128_1152_0 _ _ rfl l t (Spec.chan 9 l) t rfl (Nat.zero_add _).symm)
    (fun l t => rd2 arg11 X11 (Gs γ) h11 _ inb_S2048x128_S128x128_1280_0 _ _ rfl l t (Spec.chan 10 l) t rfl (Nat.zero_add _).symm)
    (fun l t => rd2 arg11 X11 (Gs γ) h11 _ inb_S2048x128_S128x128_1408_0 _ _ rfl l t (Spec.chan 11 l) t rfl (Nat.zero_add _).symm)
    (fun l t => rd2 arg11 X11 (Gs γ) h11 _ inb_S2048x128_S128x128_1536_0 _ _ rfl l t (Spec.chan 12 l) t rfl (Nat.zero_add _).symm)
    (fun l t => rd2 arg11 X11 (Gs γ) h11 _ inb_S2048x128_S128x128_1664_0 _ _ rfl l t (Spec.chan 13 l) t rfl (Nat.zero_add _).symm)
    (fun l t => rd2 arg11 X11 (Gs γ) h11 _ inb_S2048x128_S128x128_1792_0 _ _ rfl l t (Spec.chan 14 l) t rfl (Nat.zero_add _).symm)
    (fun l t => rd2 arg11 X11 (Gs γ) h11 _ inb_S2048x128_S128x128_1920_0 _ _ rfl l t (Spec.chan 15 l) t rfl (Nat.zero_add _).symm)
  hf i t := by
    rw [← h2 i t]
    exact rd2 arg5 X5 x2 h5 _ inb_S32x128_S32x128_0_0 _ _ rfl i t i t (Nat.zero_add _).symm (Nat.zero_add _).symm
  hk k i t := by
    unfold rkey
    exact rd3 arg3 X3 x0 h3 _ (k0_off67_inb k) _ _ (off67 k) i t _ _ rfl rfl

/-! ## The scratch's fill -/

theorem col_at (v : Vec Ideal S1x128 .f32) (l t : Fin 128) : k0_pay2 (F := Ideal) v (ix2 l t) = v (ix2 0 l) := by
  pointwise [k0_pay2]

theorem pieceC (x1 : Vec Ideal S16x128 .f32) (arg4 : Memref sig .tc .vmem S16x128 .f32) (harg4 : arg4.IsWhole) (g : Fin 16) (off : Fin 2 → ℕ) (inb) (h : off = ![128 * g.val, 0])
    (off' : Fin 2 → ℕ) (inb') (h' : off' = ![g.val, 0]) (j : S128x128.Idx) :
    k0_pay2 (F := Ideal) (View.readAt (Elt Ideal) arg4.view (Rect.unit (s := S16x128) off' ![1, 128] inb').toLoadRect (harg4.unread x1)) j
      = Gs (gam x1) ((Rect.unit (s := S2048x128) off ![128, 128] inb).emb j) := by
  subst h
  obtain ⟨l, t, rfl⟩ : ∃ l t, j = ix2 l t := ⟨j 0, j 1, ext2 rfl rfl⟩
  rw [col_at, View.readAt_eq_ld, harg4.read_unread]
  have e : (Rect.unit (s := S2048x128) ![128 * g.val, 0] ![128, 128] inb).emb (ix2 l t) = ix2 (Spec.chan g l) t := by
    refine ext2 ?_ ?_ <;> rw [ValueKit.rect_emb_unit_val]
    · rfl
    · show 0 + t.val = t.val; omega
  rw [e]
  show _ = gam x1 (Spec.chan g l)
  rw [gam_chan]
  exact ld2 x1 _ inb' _ _ h' 0 l g l rfl (Nat.zero_add _).symm

theorem canon_of_piecesOf {s : Shape} {e : EltTy} (G : s.Idx → Elt Ideal e) (L : List (View.Piece (Elt Ideal) s e)) (h : View.PiecesOf G L)
    (hc : ∀ y, ∃ p ∈ L, y ∈ p.1.set) : View.canon L = G := by
  funext y
  have := View.canon_append_of_piecesOf G [] L h y (hc y)
  rwa [List.append_nil] at this

set_option maxHeartbeats 4000000 in
theorem fill (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) :
    View.PiecesOf (Gs (gam x1)) (kernelRun0_A c i arg3 harg3 arg4 harg4 arg5 harg5 arg6 harg6 arg7 harg7 arg8 harg8 arg9 harg9 arg10 harg10 arg11 harg11 hc0 x0 x1 x2 xt0).2.2.2.2.2.1 := by
  unfold kernelRun0_A
  dsimp only
  sl_unfold_words
  exact ⟨pieceC x1 arg4 harg4 15 _ inb_S2048x128_S128x128_1920_0 rfl _ inb_S16x128_S1x128_15_0 rfl,
    pieceC x1 arg4 harg4 14 _ inb_S2048x128_S128x128_1792_0 rfl _ inb_S16x128_S1x128_14_0 rfl,
    pieceC x1 arg4 harg4 13 _ inb_S2048x128_S128x128_1664_0 rfl _ inb_S16x128_S1x128_13_0 rfl,
    pieceC x1 arg4 harg4 12 _ inb_S2048x128_S128x128_1536_0 rfl _ inb_S16x128_S1x128_12_0 rfl,
    pieceC x1 arg4 harg4 11 _ inb_S2048x128_S128x128_1408_0 rfl _ inb_S16x128_S1x128_11_0 rfl,
    pieceC x1 arg4 harg4 10 _ inb_S2048x128_S128x128_1280_0 rfl _ inb_S16x128_S1x128_10_0 rfl,
    pieceC x1 arg4 harg4 9 _ inb_S2048x128_S128x128_1152_0 rfl _ inb_S16x128_S1x128_9_0 rfl,
    pieceC x1 arg4 harg4 8 _ inb_S2048x128_S128x128_1024_0 rfl _ inb_S16x128_S1x128_8_0 rfl,
    pieceC x1 arg4 harg4 7 _ inb_S2048x128_S128x128_896_0 rfl _ inb_S16x128_S1x128_7_0 rfl,
    pieceC x1 arg4 harg4 6 _ inb_S2048x128_S128x128_768_0 rfl _ inb_S16x128_S1x128_6_0 rfl,
    pieceC x1 arg4 harg4 5 _ inb_S2048x128_S128x128_640_0 rfl _ inb_S16x128_S1x128_5_0 rfl,
    pieceC x1 arg4 harg4 4 _ inb_S2048x128_S128x128_512_0 rfl _ inb_S16x128_S1x128_4_0 rfl,
    pieceC x1 arg4 harg4 3 _ inb_S2048x128_S128x128_384_0 rfl _ inb_S16x128_S1x128_3_0 rfl,
    pieceC x1 arg4 harg4 2 _ inb_S2048x128_S128x128_256_0 rfl _ inb_S16x128_S1x128_2_0 rfl,
    pieceC x1 arg4 harg4 1 _ inb_S2048x128_S128x128_128_0 rfl _ inb_S16x128_S1x128_1_0 rfl,
    pieceC x1 arg4 harg4 0 _ inb_S2048x128_S128x128_0_0 rfl _ inb_S16x128_S1x128_0_0 rfl, trivial⟩

theorem scratch_A (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) : sout0_A_0 c i arg3 harg3 arg4 harg4 arg5 harg5 arg6 harg6 arg7 harg7 arg8 harg8 arg9 harg9 arg10 harg10 arg11 harg11 hc0 x0 x1 x2 xt0 = Gs (gam x1) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 x0 x1 x2 xt0)]
  exact canon_of_piecesOf _ _ (fill c i arg3 harg3 arg4 harg4 arg5 harg5 arg6 harg6 arg7 harg7 arg8 harg8 arg9 harg9 arg10 harg10 arg11 harg11 hc0 x0 x1 x2 xt0) (scover0_A_0 c i arg3 harg3 arg4 harg4 arg5 harg5 arg6 harg6 arg7 harg7 arg8 harg8 arg9 harg9 arg10 harg10 arg11 harg11 hc0 x0 x1 x2 xt0)

theorem read_fill (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) :
    arg11.view.read (Elt Ideal) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) = Gs (gam x1) := by
  rw [View.read_writes_eq_canon _ _ _ (scover0_A_0 c i arg3 harg3 arg4 harg4 arg5 harg5 arg6 harg6 arg7 harg7 arg8 harg8 arg9 harg9 arg10 harg10 arg11 harg11 hc0 x0 x1 x2 xt0)]
  exact canon_of_piecesOf _ _ (fill c i arg3 harg3 arg4 harg4 arg5 harg5 arg6 harg6 arg7 harg7 arg8 harg8 arg9 harg9 arg10 harg10 arg11 harg11 hc0 x0 x1 x2 xt0) (scover0_A_0 c i arg3 harg3 arg4 harg4 arg5 harg5 arg6 harg6 arg7 harg7 arg8 harg8 arg9 harg9 arg10 harg10 arg11 harg11 hc0 x0 x1 x2 xt0)

/-! ## The position a point starts from -/

theorem pos_A (c : Dev nD) (i : grid0.Coords) (xt0 : TbBuf0 (F := Ideal) c tbM0_0) : kernelRun0_A.sl.r_3 (F := Ideal) c i xt0 = xt0 (ix1 (i 0)) := by
  unfold kernelRun0_A.sl.r_3
  have hi : (i 0).val < 2 := (i 0).isLt
  refine congrArg xt0 (funext fun a => Fin.ext ?_)
  match a with
  | ⟨0, _⟩ => show (BitVec.ofNat 32 (i 0).val).toNat + 1 * 0 = (i 0).val; rw [BitVec.toNat_ofNat]; omega

theorem pos_B (c : Dev nD) (i : grid0.Coords) (xt0 : TbBuf0 (F := Ideal) c tbM0_0) : kernelRun0_B.sl.r (F := Ideal) c i xt0 = xt0 (ix1 (i 0)) := by
  unfold kernelRun0_B.sl.r
  have hi : (i 0).val < 2 := (i 0).isLt
  refine congrArg xt0 (funext fun a => Fin.ext ?_)
  match a with
  | ⟨0, _⟩ => show (BitVec.ofNat 32 (i 0).val).toNat + 1 * 0 = (i 0).val; rw [BitVec.toNat_ofNat]; omega

/-- The position of a point's first token. -/
def pos0 (i : grid0.Coords) (p : BitVec 32) : BitVec 32 := p + BitVec.ofNat 32 (i 1).val * 512#32

/-! ## The outputs' blocks -/

theorem out_A_3 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) (h2 : ∀ i t, x2 (ix2 i t) = frq x2 i) :
    out0_A_3 c i arg3 harg3 arg4 harg4 arg5 harg5 arg6 harg6 arg7 harg7 arg8 harg8 arg9 harg9 arg10 harg10 arg11 harg11 hc0 x0 x1 x2 xt0 = G3 (row x0) (gam x1) := by
  unfold out0_A_3
  rw [View.read_writes_eq_canon _ _ _ (cover0_A_3 c i arg3 harg3 arg4 harg4 arg5 harg5 arg6 harg6 arg7 harg7 arg8 harg8 arg9 harg9 arg10 harg10 arg11 harg11 hc0 x0 x1 x2 xt0)]
  refine canon_of_piecesOf _ _ ?_ (cover0_A_3 c i arg3 harg3 arg4 harg4 arg5 harg5 arg6 harg6 arg7 harg7 arg8 harg8 arg9 harg9 arg10 harg10 arg11 harg11 hc0 x0 x1 x2 xt0)
  have H := loads arg3 arg5 arg11 (harg3.unread x0) (harg5.unread x2) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) x0 x2 (gam x1) (harg3.read_unread x0) (harg5.read_unread x2) (read_fill c i arg3 harg3 arg4 harg4 arg5 harg5 arg6 harg6 arg7 harg7 arg8 harg8 arg9 harg9 arg10 harg10 arg11 harg11 hc0 x0 x1 x2 xt0) h2
  have P := pb_codesT (row x0) (gam x1) Variants.none c none i tbM0_0 htbM0_0 arg3 harg3 arg4 harg4 arg5 harg5 arg6 harg6 arg7 harg7 arg8 harg8 arg9 harg9 arg10 harg10 arg11 harg11 (BitVec.ofNat 32 (i 1).val) (kernelRun0_A.sl.r_3 c i xt0) _ _ _ H k0_t1_loop.trips le_rfl
  exact P

theorem out_A_4 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) (h2 : ∀ i t, x2 (ix2 i t) = frq x2 i) :
    out0_A_4 c i arg3 harg3 arg4 harg4 arg5 harg5 arg6 harg6 arg7 harg7 arg8 harg8 arg9 harg9 arg10 harg10 arg11 harg11 hc0 x0 x1 x2 xt0 = G4 (row x0) (gam x1) := by
  unfold out0_A_4
  rw [View.read_writes_eq_canon _ _ _ (cover0_A_4 c i arg3 harg3 arg4 harg4 arg5 harg5 arg6 harg6 arg7 harg7 arg8 harg8 arg9 harg9 arg10 harg10 arg11 harg11 hc0 x0 x1 x2 xt0)]
  refine canon_of_piecesOf _ _ ?_ (cover0_A_4 c i arg3 harg3 arg4 harg4 arg5 harg5 arg6 harg6 arg7 harg7 arg8 harg8 arg9 harg9 arg10 harg10 arg11 harg11 hc0 x0 x1 x2 xt0)
  have H := loads arg3 arg5 arg11 (harg3.unread x0) (harg5.unread x2) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) x0 x2 (gam x1) (harg3.read_unread x0) (harg5.read_unread x2) (read_fill c i arg3 harg3 arg4 harg4 arg5 harg5 arg6 harg6 arg7 harg7 arg8 harg8 arg9 harg9 arg10 harg10 arg11 harg11 hc0 x0 x1 x2 xt0) h2
  have P := pb_bytes (row x0) (gam x1) Variants.none c none i tbM0_0 htbM0_0 arg3 harg3 arg4 harg4 arg5 harg5 arg6 harg6 arg7 harg7 arg8 harg8 arg9 harg9 arg10 harg10 arg11 harg11 (BitVec.ofNat 32 (i 1).val) (kernelRun0_A.sl.r_3 c i xt0) _ _ _ H k0_t1_loop.trips le_rfl
  exact P

theorem out_A_5 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) (h2 : ∀ i t, x2 (ix2 i t) = frq x2 i) :
    out0_A_5 c i arg3 harg3 arg4 harg4 arg5 harg5 arg6 harg6 arg7 harg7 arg8 harg8 arg9 harg9 arg10 harg10 arg11 harg11 hc0 x0 x1 x2 xt0 = G5 (pos0 i (xt0 (ix1 (i 0)))) (frq x2) (rkey x0) := by
  unfold out0_A_5
  rw [View.read_writes_eq_canon _ _ _ (cover0_A_5 c i arg3 harg3 arg4 harg4 arg5 harg5 arg6 harg6 arg7 harg7 arg8 harg8 arg9 harg9 arg10 harg10 arg11 harg11 hc0 x0 x1 x2 xt0)]
  refine canon_of_piecesOf _ _ ?_ (cover0_A_5 c i arg3 harg3 arg4 harg4 arg5 harg5 arg6 harg6 arg7 harg7 arg8 harg8 arg9 harg9 arg10 harg10 arg11 harg11 hc0 x0 x1 x2 xt0)
  have H := loads arg3 arg5 arg11 (harg3.unread x0) (harg5.unread x2) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) x0 x2 (gam x1) (harg3.read_unread x0) (harg5.read_unread x2) (read_fill c i arg3 harg3 arg4 harg4 arg5 harg5 arg6 harg6 arg7 harg7 arg8 harg8 arg9 harg9 arg10 harg10 arg11 harg11 hc0 x0 x1 x2 xt0) h2
  have P := pb_rope (row x0) (gam x1) Variants.none c none i tbM0_0 htbM0_0 arg3 harg3 arg4 harg4 arg5 harg5 arg6 harg6 arg7 harg7 arg8 harg8 arg9 harg9 arg10 harg10 arg11 harg11 (BitVec.ofNat 32 (i 1).val) (kernelRun0_A.sl.r_3 c i xt0) _ _ _ H k0_t1_loop.trips le_rfl
  have e : pos0 i (xt0 (ix1 (i 0))) = (kernelRun0_A.sl.r_3 c i xt0) + BitVec.ofNat 32 (i 1).val * 512#32 := congrArg (fun p : BitVec 32 => p + BitVec.ofNat 32 (i 1).val * 512#32) (pos_A c i xt0).symm
  rw [e]
  exact P

theorem out_A_6 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) (h2 : ∀ i t, x2 (ix2 i t) = frq x2 i) :
    out0_A_6 c i arg3 harg3 arg4 harg4 arg5 harg5 arg6 harg6 arg7 harg7 arg8 harg8 arg9 harg9 arg10 harg10 arg11 harg11 hc0 x0 x1 x2 xt0 = G6 (row x0) (gam x1) := by
  unfold out0_A_6
  rw [View.read_writes_eq_canon _ _ _ (cover0_A_6 c i arg3 harg3 arg4 harg4 arg5 harg5 arg6 harg6 arg7 harg7 arg8 harg8 arg9 harg9 arg10 harg10 arg11 harg11 hc0 x0 x1 x2 xt0)]
  refine canon_of_piecesOf _ _ ?_ (cover0_A_6 c i arg3 harg3 arg4 harg4 arg5 harg5 arg6 harg6 arg7 harg7 arg8 harg8 arg9 harg9 arg10 harg10 arg11 harg11 hc0 x0 x1 x2 xt0)
  have H := loads arg3 arg5 arg11 (harg3.unread x0) (harg5.unread x2) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) x0 x2 (gam x1) (harg3.read_unread x0) (harg5.read_unread x2) (read_fill c i arg3 harg3 arg4 harg4 arg5 harg5 arg6 harg6 arg7 harg7 arg8 harg8 arg9 harg9 arg10 harg10 arg11 harg11 hc0 x0 x1 x2 xt0) h2
  have P := pb_codesN (row x0) (gam x1) Variants.none c none i tbM0_0 htbM0_0 arg3 harg3 arg4 harg4 arg5 harg5 arg6 harg6 arg7 harg7 arg8 harg8 arg9 harg9 arg10 harg10 arg11 harg11 (BitVec.ofNat 32 (i 1).val) (kernelRun0_A.sl.r_3 c i xt0) _ _ _ H k0_t1_loop.trips le_rfl
  exact P

theorem out_A_7 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : cond0_0 i)    (x0 : Vec Ideal S1x2112x512 .bf16) (x1 : Vec Ideal S16x128 .f32) (x2 : Vec Ideal S32x128 .f32) (xt0 : TbBuf0 (F := Ideal) c tbM0_0) (h2 : ∀ i t, x2 (ix2 i t) = frq x2 i) :
    out0_A_7 c i arg3 harg3 arg4 harg4 arg5 harg5 arg6 harg6 arg7 harg7 arg8 harg8 arg9 harg9 arg10 harg10 arg11 harg11 hc0 x0 x1 x2 xt0 = G7 (row x0) (gam x1) := by
  unfold out0_A_7
  rw [View.read_writes_eq_canon _ _ _ (cover0_A_7 c i arg3 harg3 arg4 harg4 arg5 harg5 arg6 harg6 arg7 harg7 arg8 harg8 arg9 harg9 arg10 harg10 arg11 harg11 hc0 x0 x1 x2 xt0)]
  refine canon_of_piecesOf _ _ ?_ (cover0_A_7 c i arg3 harg3 arg4 harg4 arg5 harg5 arg6 harg6 arg7 harg7 arg8 harg8 arg9 harg9 arg10 harg10 arg11 harg11 hc0 x0 x1 x2 xt0)
  have H := loads arg3 arg5 arg11 (harg3.unread x0) (harg5.unread x2) (arg11.view.writes (Elt Ideal) arg11.view.junk (kernelRun0_A c i arg3 harg3 arg4 harg4 arg5 harg5 arg6 harg6 arg7 harg7 arg8 harg8 arg9 harg9 arg10 harg10 arg11 harg11 hc0 x0 x1 x2 xt0).2.2.2.2.2.1) x0 x2 (gam x1) (harg3.read_unread x0) (harg5.read_unread x2) (read_fill c i arg3 harg3 arg4 harg4 arg5 harg5 arg6 harg6 arg7 harg7 arg8 harg8 arg9 harg9 arg10 harg10 arg11 harg11 hc0 x0 x1 x2 xt0) h2
  have P := pb_scale (row x0) (gam x1) Variants.none c none i tbM0_0 htbM0_0 arg3 harg3 arg4 harg4 arg5 harg5 arg6 harg6 arg7 harg7 arg8 harg8 arg9 harg9 arg10 harg10 arg11 harg11 (BitVec.ofNat 32 (i 1).val) (kernelRun0_A.sl.r_3 c i xt0) _ _ _ H k0_t1_loop.trips le_rfl
  exact P

theorem out_B_3 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : ¬cond0_0 i)    (x0 : Vec Ideal S1x2112x512 .bf16) (x1 : Vec Ideal S16x128 .f32) (x2 : Vec Ideal S32x128 .f32) (xt0 : TbBuf0 (F := Ideal) c tbM0_0) (xs0 : Vec Ideal S2048x128 .f32) (γ : Fin 2048 → EReal) (hs : xs0 = Gs γ) (h2 : ∀ i t, x2 (ix2 i t) = frq x2 i) :
    out0_B_3 c i arg3 harg3 arg4 harg4 arg5 harg5 arg6 harg6 arg7 harg7 arg8 harg8 arg9 harg9 arg10 harg10 arg11 harg11 hc0 x0 x1 x2 xt0 xs0 = G3 (row x0) γ := by
  unfold out0_B_3
  rw [View.read_writes_eq_canon _ _ _ (cover0_B_3 c i arg3 harg3 arg4 harg4 arg5 harg5 arg6 harg6 arg7 harg7 arg8 harg8 arg9 harg9 arg10 harg10 arg11 harg11 hc0 x0 x1 x2 xt0 xs0)]
  refine canon_of_piecesOf _ _ ?_ (cover0_B_3 c i arg3 harg3 arg4 harg4 arg5 harg5 arg6 harg6 arg7 harg7 arg8 harg8 arg9 harg9 arg10 harg10 arg11 harg11 hc0 x0 x1 x2 xt0 xs0)
  have H := loads arg3 arg5 arg11 (harg3.unread x0) (harg5.unread x2) (harg11.unread xs0) x0 x2 γ (harg3.read_unread x0) (harg5.read_unread x2) ((harg11.read_unread xs0).trans hs) h2
  have P := pb_codesT (row x0) γ Variants.none c none i tbM0_0 htbM0_0 arg3 harg3 arg4 harg4 arg5 harg5 arg6 harg6 arg7 harg7 arg8 harg8 arg9 harg9 arg10 harg10 arg11 harg11 (BitVec.ofNat 32 (i 1).val) (kernelRun0_B.sl.r c i xt0) _ _ _ H k0_t1_loop.trips le_rfl
  exact P

theorem out_B_4 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : ¬cond0_0 i)    (x0 : Vec Ideal S1x2112x512 .bf16) (x1 : Vec Ideal S16x128 .f32) (x2 : Vec Ideal S32x128 .f32) (xt0 : TbBuf0 (F := Ideal) c tbM0_0) (xs0 : Vec Ideal S2048x128 .f32) (γ : Fin 2048 → EReal) (hs : xs0 = Gs γ) (h2 : ∀ i t, x2 (ix2 i t) = frq x2 i) :
    out0_B_4 c i arg3 harg3 arg4 harg4 arg5 harg5 arg6 harg6 arg7 harg7 arg8 harg8 arg9 harg9 arg10 harg10 arg11 harg11 hc0 x0 x1 x2 xt0 xs0 = G4 (row x0) γ := by
  unfold out0_B_4
  rw [View.read_writes_eq_canon _ _ _ (cover0_B_4 c i arg3 harg3 arg4 harg4 arg5 harg5 arg6 harg6 arg7 harg7 arg8 harg8 arg9 harg9 arg10 harg10 arg11 harg11 hc0 x0 x1 x2 xt0 xs0)]
  refine canon_of_piecesOf _ _ ?_ (cover0_B_4 c i arg3 harg3 arg4 harg4 arg5 harg5 arg6 harg6 arg7 harg7 arg8 harg8 arg9 harg9 arg10 harg10 arg11 harg11 hc0 x0 x1 x2 xt0 xs0)
  have H := loads arg3 arg5 arg11 (harg3.unread x0) (harg5.unread x2) (harg11.unread xs0) x0 x2 γ (harg3.read_unread x0) (harg5.read_unread x2) ((harg11.read_unread xs0).trans hs) h2
  have P := pb_bytes (row x0) γ Variants.none c none i tbM0_0 htbM0_0 arg3 harg3 arg4 harg4 arg5 harg5 arg6 harg6 arg7 harg7 arg8 harg8 arg9 harg9 arg10 harg10 arg11 harg11 (BitVec.ofNat 32 (i 1).val) (kernelRun0_B.sl.r c i xt0) _ _ _ H k0_t1_loop.trips le_rfl
  exact P

theorem out_B_5 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : ¬cond0_0 i)    (x0 : Vec Ideal S1x2112x512 .bf16) (x1 : Vec Ideal S16x128 .f32) (x2 : Vec Ideal S32x128 .f32) (xt0 : TbBuf0 (F := Ideal) c tbM0_0) (xs0 : Vec Ideal S2048x128 .f32) (γ : Fin 2048 → EReal) (hs : xs0 = Gs γ) (h2 : ∀ i t, x2 (ix2 i t) = frq x2 i) :
    out0_B_5 c i arg3 harg3 arg4 harg4 arg5 harg5 arg6 harg6 arg7 harg7 arg8 harg8 arg9 harg9 arg10 harg10 arg11 harg11 hc0 x0 x1 x2 xt0 xs0 = G5 (pos0 i (xt0 (ix1 (i 0)))) (frq x2) (rkey x0) := by
  unfold out0_B_5
  rw [View.read_writes_eq_canon _ _ _ (cover0_B_5 c i arg3 harg3 arg4 harg4 arg5 harg5 arg6 harg6 arg7 harg7 arg8 harg8 arg9 harg9 arg10 harg10 arg11 harg11 hc0 x0 x1 x2 xt0 xs0)]
  refine canon_of_piecesOf _ _ ?_ (cover0_B_5 c i arg3 harg3 arg4 harg4 arg5 harg5 arg6 harg6 arg7 harg7 arg8 harg8 arg9 harg9 arg10 harg10 arg11 harg11 hc0 x0 x1 x2 xt0 xs0)
  have H := loads arg3 arg5 arg11 (harg3.unread x0) (harg5.unread x2) (harg11.unread xs0) x0 x2 γ (harg3.read_unread x0) (harg5.read_unread x2) ((harg11.read_unread xs0).trans hs) h2
  have P := pb_rope (row x0) γ Variants.none c none i tbM0_0 htbM0_0 arg3 harg3 arg4 harg4 arg5 harg5 arg6 harg6 arg7 harg7 arg8 harg8 arg9 harg9 arg10 harg10 arg11 harg11 (BitVec.ofNat 32 (i 1).val) (kernelRun0_B.sl.r c i xt0) _ _ _ H k0_t1_loop.trips le_rfl
  have e : pos0 i (xt0 (ix1 (i 0))) = (kernelRun0_B.sl.r c i xt0) + BitVec.ofNat 32 (i 1).val * 512#32 := congrArg (fun p : BitVec 32 => p + BitVec.ofNat 32 (i 1).val * 512#32) (pos_B c i xt0).symm
  rw [e]
  exact P

theorem out_B_6 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : ¬cond0_0 i)    (x0 : Vec Ideal S1x2112x512 .bf16) (x1 : Vec Ideal S16x128 .f32) (x2 : Vec Ideal S32x128 .f32) (xt0 : TbBuf0 (F := Ideal) c tbM0_0) (xs0 : Vec Ideal S2048x128 .f32) (γ : Fin 2048 → EReal) (hs : xs0 = Gs γ) (h2 : ∀ i t, x2 (ix2 i t) = frq x2 i) :
    out0_B_6 c i arg3 harg3 arg4 harg4 arg5 harg5 arg6 harg6 arg7 harg7 arg8 harg8 arg9 harg9 arg10 harg10 arg11 harg11 hc0 x0 x1 x2 xt0 xs0 = G6 (row x0) γ := by
  unfold out0_B_6
  rw [View.read_writes_eq_canon _ _ _ (cover0_B_6 c i arg3 harg3 arg4 harg4 arg5 harg5 arg6 harg6 arg7 harg7 arg8 harg8 arg9 harg9 arg10 harg10 arg11 harg11 hc0 x0 x1 x2 xt0 xs0)]
  refine canon_of_piecesOf _ _ ?_ (cover0_B_6 c i arg3 harg3 arg4 harg4 arg5 harg5 arg6 harg6 arg7 harg7 arg8 harg8 arg9 harg9 arg10 harg10 arg11 harg11 hc0 x0 x1 x2 xt0 xs0)
  have H := loads arg3 arg5 arg11 (harg3.unread x0) (harg5.unread x2) (harg11.unread xs0) x0 x2 γ (harg3.read_unread x0) (harg5.read_unread x2) ((harg11.read_unread xs0).trans hs) h2
  have P := pb_codesN (row x0) γ Variants.none c none i tbM0_0 htbM0_0 arg3 harg3 arg4 harg4 arg5 harg5 arg6 harg6 arg7 harg7 arg8 harg8 arg9 harg9 arg10 harg10 arg11 harg11 (BitVec.ofNat 32 (i 1).val) (kernelRun0_B.sl.r c i xt0) _ _ _ H k0_t1_loop.trips le_rfl
  exact P

theorem out_B_7 (c : Dev nD) (i : grid0.Coords) (arg3 : Memref sig .tc .vmem S1x2112x512 .bf16) (harg3 : arg3.IsWhole) (arg4 : Memref sig .tc .vmem S16x128 .f32) (harg4 : arg4.IsWhole) (arg5 : Memref sig .tc .vmem S32x128 .f32) (harg5 : arg5.IsWhole) (arg6 : Memref sig .tc .vmem S1x2048x512 .fp8e4m3) (harg6 : arg6.IsWhole) (arg7 : Memref sig .tc .vmem S1x64x512 .i8) (harg7 : arg7.IsWhole) (arg8 : Memref sig .tc .vmem S1x64x512 .bf16) (harg8 : arg8.IsWhole) (arg9 : Memref sig .tc .vmem S1x512x2048 .fp8e4m3) (harg9 : arg9.IsWhole) (arg10 : Memref sig .tc .vmem S1x16x512 .f32) (harg10 : arg10.IsWhole) (arg11 : Memref sig .tc .vmem S2048x128 .f32) (harg11 : arg11.IsWhole) (hc0 : ¬cond0_0 i)    (x0 : Vec Ideal S1x2112x512 .bf16) (x1 : Vec Ideal S16x128 .f32) (x2 : Vec Ideal S32x128 .f32) (xt0 : TbBuf0 (F := Ideal) c tbM0_0) (xs0 : Vec Ideal S2048x128 .f32) (γ : Fin 2048 → EReal) (hs : xs0 = Gs γ) (h2 : ∀ i t, x2 (ix2 i t) = frq x2 i) :
    out0_B_7 c i arg3 harg3 arg4 harg4 arg5 harg5 arg6 harg6 arg7 harg7 arg8 harg8 arg9 harg9 arg10 harg10 arg11 harg11 hc0 x0 x1 x2 xt0 xs0 = G7 (row x0) γ := by
  unfold out0_B_7
  rw [View.read_writes_eq_canon _ _ _ (cover0_B_7 c i arg3 harg3 arg4 harg4 arg5 harg5 arg6 harg6 arg7 harg7 arg8 harg8 arg9 harg9 arg10 harg10 arg11 harg11 hc0 x0 x1 x2 xt0 xs0)]
  refine canon_of_piecesOf _ _ ?_ (cover0_B_7 c i arg3 harg3 arg4 harg4 arg5 harg5 arg6 harg6 arg7 harg7 arg8 harg8 arg9 harg9 arg10 harg10 arg11 harg11 hc0 x0 x1 x2 xt0 xs0)
  have H := loads arg3 arg5 arg11 (harg3.unread x0) (harg5.unread x2) (harg11.unread xs0) x0 x2 γ (harg3.read_unread x0) (harg5.read_unread x2) ((harg11.read_unread xs0).trans hs) h2
  have P := pb_scale (row x0) γ Variants.none c none i tbM0_0 htbM0_0 arg3 harg3 arg4 harg4 arg5 harg5 arg6 harg6 arg7 harg7 arg8 harg8 arg9 harg9 arg10 harg10 arg11 harg11 (BitVec.ofNat 32 (i 1).val) (kernelRun0_B.sl.r c i xt0) _ _ _ H k0_t1_loop.trips le_rfl
  exact P

end Cert.KernelIdeal.Tile

end
-- ==== Proof.KernelRun.lean ====
/- The kernel's whole run: each point's outputs, where they land in the arrays, and the five results in closed form. -/
module

public import proofs.«01_k».proof.Proof.Point
public import Idealize.ShloMosaic.Lib.Pipeline.ValueKit
public import Idealize.ShloMosaic.Lib.Pipeline.Covers
public import Idealize.ShloMosaic.Lib.StableHlo.ReadAt
public import Idealize.ShloMosaic.Lib.Claim

@[expose] public section

set_option maxRecDepth 16384
noncomputable section

namespace Cert.KernelIdeal.Tile

open Cert.KernelIdeal Cert.KernelIdeal.Gen
open Idealize.ShloMosaic Idealize.ShloMosaic.TcCoe Idealize.SL.Sem

variable (m : (ℓ : Loc nD τ sig) → Buf (Elt Ideal) ℓ) (hO : Ok m) (c : Dev nD)

/-- The batch of a point, -/
def bat (t : Fin (cfgM m hO).N) : Fin 2 := grid0.coords t 0
/-- and its block of tokens. -/
def blkT (t : Fin (cfgM m hO).N) : Fin 16 := grid0.coords t 1
/-- A token of the block, among all. -/
def tokG (t : Fin (cfgM m hO).N) (τ : Fin 512) : Fin 8192 := ⟨512 * (blkT m hO t).val + τ.val, by have := (blkT m hO t).isLt; omega⟩

theorem v5_at (b : Fin 2) (ch : Fin 2112) (T : Fin 8192) : V m c main_v5 (ix3 b ch T) = m (c.tc.loc main_arg0) (ix3 b T ch) := by
  unfold V
  after_reads_at

theorem v6_at (g : Fin 16) (l : Fin 128) : V m c main_v6 (ix2 g l) = m (c.tc.loc main_arg1) (ix1 (Spec.chan g l)) := by
  unfold V
  after_reads_at
  refine congrArg (fun i => m (c.tc.loc main_arg1) (ix1 i)) (Fin.ext ?_)
  show g.val * 128 + l.val = 128 * g.val + l.val
  omega

/-- The frequency of a rotary pair, as the kernel's program computes it. -/
def freqK (i : Fin 32) : EReal :=
  Ideal.pow (Ideal.ofBits FTy.f32 0x461C4000#32) (Ideal.ofBits FTy.f32 0xBD000000#32 * FloatOps.sitofp (F := Ideal) FTy.f32 (BitVec.ofNat 32 i.val))

theorem v8_at (i : Fin 32) (l : Fin 128) : V m c main_v8 (ix2 i l) = freqK i := by
  unfold V freqK
  after_reads_at

theorem toNat0 (i : grid0.Coords) : (BitVec.ofNat 32 (i 0).val).toNat = (i 0).val := by
  have h : (i 0).val < 2 := (i 0).isLt
  rw [BitVec.toNat_ofNat]; omega
theorem toNat1 (i : grid0.Coords) : (BitVec.ofNat 32 (i 1).val).toNat = (i 1).val := by
  have h : (i 1).val < 16 := (i 1).isLt
  rw [BitVec.toNat_ofNat]; omega

theorem emb0 (t : Fin (cfgM m hO).N) (ch : Fin 2112) (τ : Fin 512) :
    (((cfgM m hO).win 0).blk t).view.emb (ix3 0 ch τ) = ix3 (bat m hO t) ch (tokG m hO t τ) := by
  refine ext3 ?_ ?_ ?_
  · refine (Pipeline.Window.rect_emb_val ((cfgM m hO).win 0) t (ix3 0 ch τ) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 0) t (ix3 0 ch τ) (1 : Fin 3)).trans ?_
    show 0 * 2112 + ch.val = ch.val; omega
  · refine (Pipeline.Window.rect_emb_val ((cfgM m hO).win 0) t (ix3 0 ch τ) (2 : Fin 3)).trans ?_
    show (BitVec.ofNat 32 (grid0.coords t 1).val).toNat * 512 + τ.val = _
    rw [toNat1]; show (grid0.coords t 1).val * 512 + τ.val = 512 * (grid0.coords t 1).val + τ.val; omega

theorem iblk0 (t : Fin (cfgM m hO).N) (ch : Fin 2112) (τ : Fin 512) : iblk m hO c 0 t (ix3 0 ch τ) = V m c main_v5 (ix3 (bat m hO t) ch (tokG m hO t τ)) := by
  unfold iblk
  exact congrArg (V m c main_v5) (emb0 m hO t ch τ)

theorem iblk1 (t : Fin (cfgM m hO).N) (g : Fin 16) (l : Fin 128) : iblk m hO c 1 t (ix2 g l) = V m c main_v6 (ix2 g l) := by
  unfold iblk
  refine congrArg (V m c main_v6) (ext2 ?_ ?_)
  · refine (Pipeline.Window.rect_emb_val ((cfgM m hO).win 1) t (ix2 g l) (0 : Fin 2)).trans ?_
    show 0 * 16 + g.val = g.val; omega
  · refine (Pipeline.Window.rect_emb_val ((cfgM m hO).win 1) t (ix2 g l) (1 : Fin 2)).trans ?_
    show 0 * 128 + l.val = l.val; omega

theorem iblk2 (t : Fin (cfgM m hO).N) (i : Fin 32) (l : Fin 128) : iblk m hO c 2 t (ix2 i l) = V m c main_v8 (ix2 i l) := by
  unfold iblk
  refine congrArg (V m c main_v8) (ext2 ?_ ?_)
  · refine (Pipeline.Window.rect_emb_val ((cfgM m hO).win 2) t (ix2 i l) (0 : Fin 2)).trans ?_
    show 0 * 32 + i.val = i.val; omega
  · refine (Pipeline.Window.rect_emb_val ((cfgM m hO).win 2) t (ix2 i l) (1 : Fin 2)).trans ?_
    show 0 * 128 + l.val = l.val; omega

/-- A token's latent, -/
def Rw (b : Fin 2) (T : Fin 8192) (ch : Fin 2048) : EReal := m (c.tc.loc main_arg0) (ix3 b T ⟨ch.val, by omega⟩)
/-- its rotary key, -/
def Kw (b : Fin 2) (T : Fin 8192) (i : Fin 64) : EReal := m (c.tc.loc main_arg0) (ix3 b T ⟨2048 + i.val, by omega⟩)
/-- the norm's weights, -/
def Gw (ch : Fin 2048) : EReal := m (c.tc.loc main_arg1) (ix1 ch)
/-- and a batch's first position. -/
def Pw (b : Fin 2) : BitVec 32 := m (c.tc.loc main_arg2) (ix1 b)

theorem row_eq (t : Fin (cfgM m hO).N) : row (iblk m hO c 0 t) = fun τ => Rw m c (bat m hO t) (tokG m hO t τ) := by
  funext τ ch
  exact (iblk0 m hO c t ⟨ch.val, by omega⟩ τ).trans (v5_at m c _ _ _)
theorem rkey_eq (t : Fin (cfgM m hO).N) : rkey (iblk m hO c 0 t) = fun τ => Kw m c (bat m hO t) (tokG m hO t τ) := by
  funext τ i
  exact (iblk0 m hO c t ⟨2048 + i.val, by omega⟩ τ).trans (v5_at m c _ _ _)
theorem gam_eq (t : Fin (cfgM m hO).N) : gam (iblk m hO c 1 t) = Gw m c := by
  funext ch
  refine (iblk1 m hO c t ⟨ch.val / 128, by omega⟩ ⟨ch.val % 128, by omega⟩).trans ((v6_at m c _ _).trans ?_)
  refine congrArg (fun i => m (c.tc.loc main_arg1) (ix1 i)) (Fin.ext ?_)
  show 128 * (ch.val / 128) + ch.val % 128 = ch.val
  omega
theorem frq_eq (t : Fin (cfgM m hO).N) : frq (iblk m hO c 2 t) = freqK := by
  funext i
  exact (iblk2 m hO c t i 0).trans (v8_at m c i 0)
theorem frq_flat (t : Fin (cfgM m hO).N) (i : Fin 32) (l : Fin 128) : iblk m hO c 2 t (ix2 i l) = frq (iblk m hO c 2 t) i := by
  exact (iblk2 m hO c t i l).trans ((v8_at m c i l).trans (congrFun (frq_eq m hO c t) i).symm)

/-- The table the kernel reads is the positions' array. -/
theorem tbl_at (b : Fin 2) : tbl m 0 (ix1 b) = Pw m c b := by
  obtain rfl : c = 0 := Subsingleton.elim _ _
  unfold tbl Pw V
  after_reads_at
  rfl

/-- The scratch holds the weights after every point: the first writes them, the rest carry them. -/
theorem scratch_all : ∀ (n : ℕ) (t : Fin (cfgM m hO).N), t.val = n → (outsAt0 m hO c t.val t.isLt).2.2.2.2.2 = Gs (Gw m c) := by
  intro n
  induction n with
  | zero =>
    intro t ht
    rw [outsAt0_A m hO c t (by rw [ht])]
    dsimp only
    exact (scratch_A _ _ _ _ _ _ _ _ _ _ _ _ _ _ _ _ _ _ _ _ _ _ _ _ _).trans (congrArg Gs (gam_eq m hO c t))
  | succ n ih =>
    intro t ht
    by_cases h0 : t.val % 32 = 0
    · rw [outsAt0_A m hO c t h0]
      dsimp only
      exact (scratch_A _ _ _ _ _ _ _ _ _ _ _ _ _ _ _ _ _ _ _ _ _ _ _ _ _).trans (congrArg Gs (gam_eq m hO c t))
    · rw [outsAt0_B m hO c t h0]
      exact ih ⟨t.val - 1, by have := t.isLt; omega⟩ (by show t.val - 1 = n; omega)

theorem outs_3 (t : Fin (cfgM m hO).N) : (outsAt0 m hO c t.val t.isLt).1 = G3 (fun τ => Rw m c (bat m hO t) (tokG m hO t τ)) (Gw m c) := by
  by_cases h0 : t.val % 32 = 0
  · rw [outsAt0_A m hO c t h0]
    exact (out_A_3 _ _ _ _ _ _ _ _ _ _ _ _ _ _ _ _ _ _ _ _ _ _ _ _ _ (frq_flat m hO c t)).trans (congrArg₂ (fun x g => G3 x g) (row_eq m hO c t) (gam_eq m hO c t))
  · rw [outsAt0_B m hO c t h0]
    exact (out_B_3 _ _ _ _ _ _ _ _ _ _ _ _ _ _ _ _ _ _ _ _ _ _ _ _ _ _ (Gw m c) (scratch_all m hO c (t.val - 1) ⟨t.val - 1, by have := t.isLt; omega⟩ rfl) (frq_flat m hO c t)).trans (congrArg (fun x => G3 x (Gw m c)) (row_eq m hO c t))

theorem outs_4 (t : Fin (cfgM m hO).N) : (outsAt0 m hO c t.val t.isLt).2.1 = G4 (fun τ => Rw m c (bat m hO t) (tokG m hO t τ)) (Gw m c) := by
  by_cases h0 : t.val % 32 = 0
  · rw [outsAt0_A m hO c t h0]
    exact (out_A_4 _ _ _ _ _ _ _ _ _ _ _ _ _ _ _ _ _ _ _ _ _ _ _ _ _ (frq_flat m hO c t)).trans (congrArg₂ (fun x g => G4 x g) (row_eq m hO c t) (gam_eq m hO c t))
  · rw [outsAt0_B m hO c t h0]
    exact (out_B_4 _ _ _ _ _ _ _ _ _ _ _ _ _ _ _ _ _ _ _ _ _ _ _ _ _ _ (Gw m c) (scratch_all m hO c (t.val - 1) ⟨t.val - 1, by have := t.isLt; omega⟩ rfl) (frq_flat m hO c t)).trans (congrArg (fun x => G4 x (Gw m c)) (row_eq m hO c t))

theorem outs_5 (t : Fin (cfgM m hO).N) : (outsAt0 m hO c t.val t.isLt).2.2.1 = G5 (pos0 (grid0.coords t) (tbl m 0 (ix1 (grid0.coords t 0)))) freqK (fun τ => Kw m c (bat m hO t) (tokG m hO t τ)) := by
  by_cases h0 : t.val % 32 = 0
  · rw [outsAt0_A m hO c t h0]
    exact (out_A_5 _ _ _ _ _ _ _ _ _ _ _ _ _ _ _ _ _ _ _ _ _ _ _ _ _ (frq_flat m hO c t)).trans (congrArg₂ (fun x g => G5 (pos0 (grid0.coords t) (tbl m 0 (ix1 (grid0.coords t 0)))) g x) (rkey_eq m hO c t) (frq_eq m hO c t))
  · rw [outsAt0_B m hO c t h0]
    exact (out_B_5 _ _ _ _ _ _ _ _ _ _ _ _ _ _ _ _ _ _ _ _ _ _ _ _ _ _ (Gw m c) (scratch_all m hO c (t.val - 1) ⟨t.val - 1, by have := t.isLt; omega⟩ rfl) (frq_flat m hO c t)).trans (congrArg₂ (fun x g => G5 (pos0 (grid0.coords t) (tbl m 0 (ix1 (grid0.coords t 0)))) g x) (rkey_eq m hO c t) (frq_eq m hO c t))

theorem outs_6 (t : Fin (cfgM m hO).N) : (outsAt0 m hO c t.val t.isLt).2.2.2.1 = G6 (fun τ => Rw m c (bat m hO t) (tokG m hO t τ)) (Gw m c) := by
  by_cases h0 : t.val % 32 = 0
  · rw [outsAt0_A m hO c t h0]
    exact (out_A_6 _ _ _ _ _ _ _ _ _ _ _ _ _ _ _ _ _ _ _ _ _ _ _ _ _ (frq_flat m hO c t)).trans (congrArg₂ (fun x g => G6 x g) (row_eq m hO c t) (gam_eq m hO c t))
  · rw [outsAt0_B m hO c t h0]
    exact (out_B_6 _ _ _ _ _ _ _ _ _ _ _ _ _ _ _ _ _ _ _ _ _ _ _ _ _ _ (Gw m c) (scratch_all m hO c (t.val - 1) ⟨t.val - 1, by have := t.isLt; omega⟩ rfl) (frq_flat m hO c t)).trans (congrArg (fun x => G6 x (Gw m c)) (row_eq m hO c t))

theorem outs_7 (t : Fin (cfgM m hO).N) : (outsAt0 m hO c t.val t.isLt).2.2.2.2.1 = G7 (fun τ => Rw m c (bat m hO t) (tokG m hO t τ)) (Gw m c) := by
  by_cases h0 : t.val % 32 = 0
  · rw [outsAt0_A m hO c t h0]
    exact (out_A_7 _ _ _ _ _ _ _ _ _ _ _ _ _ _ _ _ _ _ _ _ _ _ _ _ _ (frq_flat m hO c t)).trans (congrArg₂ (fun x g => G7 x g) (row_eq m hO c t) (gam_eq m hO c t))
  · rw [outsAt0_B m hO c t h0]
    exact (out_B_7 _ _ _ _ _ _ _ _ _ _ _ _ _ _ _ _ _ _ _ _ _ _ _ _ _ _ (Gw m c) (scratch_all m hO c (t.val - 1) ⟨t.val - 1, by have := t.isLt; omega⟩ rfl) (frq_flat m hO c t)).trans (congrArg (fun x => G7 x (Gw m c)) (row_eq m hO c t))

theorem emb3 (t : Fin (cfgM m hO).N) (o : Fin 2048) (τ : Fin 512) :
    (((cfgM m hO).win 3).blk t).view.emb (ix3 0 o τ) = (ix3 (bat m hO t) (o) (tokG m hO t τ) : S2x2048x8192.Idx) := by
  refine ext3 ?_ ?_ ?_
  · refine (Pipeline.Window.rect_emb_val ((cfgM m hO).win 3) t (ix3 0 o τ) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 3) t (ix3 0 o τ) (1 : Fin 3)).trans ?_
    show 0 * 2048 + o.val = o.val; omega
  · refine (Pipeline.Window.rect_emb_val ((cfgM m hO).win 3) t (ix3 0 o τ) (2 : Fin 3)).trans ?_
    show (BitVec.ofNat 32 (grid0.coords t 1).val).toNat * 512 + τ.val = _
    rw [toNat1]; show (grid0.coords t 1).val * 512 + τ.val = 512 * (grid0.coords t 1).val + τ.val; omega

theorem covers3 : ((cfgM m hO).win 3).Covers := by
  refine ((cfgM m hO).win 3).covers_of_indexMap_surj rfl (fun a => ?_) fun β => ?_
  · revert a; exact (by decide : ∀ a : Fin 3, 0 < S1x2048x512.size a)
  · have h0 : (β (0 : Fin 3)).val < 2 := lt_of_lt_of_eq (β (0 : Fin 3)).isLt (by show (S2x2048x8192.size (0 : Fin 3) + S1x2048x512.size (0 : Fin 3) - 1) / S1x2048x512.size (0 : Fin 3) = 2; rfl)
    have h1 : (β (1 : Fin 3)).val < 1 := lt_of_lt_of_eq (β (1 : Fin 3)).isLt (by show (S2x2048x8192.size (1 : Fin 3) + S1x2048x512.size (1 : Fin 3) - 1) / S1x2048x512.size (1 : Fin 3) = 1; rfl)
    have h2 : (β (2 : Fin 3)).val < 16 := lt_of_lt_of_eq (β (2 : Fin 3)).isLt (by show (S2x2048x8192.size (2 : Fin 3) + S1x2048x512.size (2 : Fin 3) - 1) / S1x2048x512.size (2 : Fin 3) = 16; rfl)
    refine ⟨fun a => match a with | ⟨0, _⟩ => ⟨_, h0⟩ | ⟨1, _⟩ => ⟨_, h2⟩, fun a => ?_⟩
    match a with
    | ⟨0, _⟩ => show (BitVec.ofNat 32 (β (0 : Fin 3)).val).toNat = (β (0 : Fin 3)).val; rw [BitVec.toNat_ofNat]; omega
    | ⟨1, _⟩ => exact (Nat.lt_one_iff.mp h1).symm
    | ⟨2, _⟩ => show (BitVec.ofNat 32 (β (2 : Fin 3)).val).toNat = (β (2 : Fin 3)).val; rw [BitVec.toNat_ofNat]; omega

theorem emb4 (t : Fin (cfgM m hO).N) (o : Fin 64) (τ : Fin 512) :
    (((cfgM m hO).win 4).blk t).view.emb (ix3 0 o τ) = (ix3 (bat m hO t) (o) (tokG m hO t τ) : S2x64x8192.Idx) := by
  refine ext3 ?_ ?_ ?_
  · refine (Pipeline.Window.rect_emb_val ((cfgM m hO).win 4) t (ix3 0 o τ) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 4) t (ix3 0 o τ) (1 : Fin 3)).trans ?_
    show 0 * 64 + o.val = o.val; omega
  · refine (Pipeline.Window.rect_emb_val ((cfgM m hO).win 4) t (ix3 0 o τ) (2 : Fin 3)).trans ?_
    show (BitVec.ofNat 32 (grid0.coords t 1).val).toNat * 512 + τ.val = _
    rw [toNat1]; show (grid0.coords t 1).val * 512 + τ.val = 512 * (grid0.coords t 1).val + τ.val; omega

theorem covers4 : ((cfgM m hO).win 4).Covers := by
  refine ((cfgM m hO).win 4).covers_of_indexMap_surj rfl (fun a => ?_) fun β => ?_
  · revert a; exact (by decide : ∀ a : Fin 3, 0 < S1x64x512.size a)
  · have h0 : (β (0 : Fin 3)).val < 2 := lt_of_lt_of_eq (β (0 : Fin 3)).isLt (by show (S2x64x8192.size (0 : Fin 3) + S1x64x512.size (0 : Fin 3) - 1) / S1x64x512.size (0 : Fin 3) = 2; rfl)
    have h1 : (β (1 : Fin 3)).val < 1 := lt_of_lt_of_eq (β (1 : Fin 3)).isLt (by show (S2x64x8192.size (1 : Fin 3) + S1x64x512.size (1 : Fin 3) - 1) / S1x64x512.size (1 : Fin 3) = 1; rfl)
    have h2 : (β (2 : Fin 3)).val < 16 := lt_of_lt_of_eq (β (2 : Fin 3)).isLt (by show (S2x64x8192.size (2 : Fin 3) + S1x64x512.size (2 : Fin 3) - 1) / S1x64x512.size (2 : Fin 3) = 16; rfl)
    refine ⟨fun a => match a with | ⟨0, _⟩ => ⟨_, h0⟩ | ⟨1, _⟩ => ⟨_, h2⟩, fun a => ?_⟩
    match a with
    | ⟨0, _⟩ => show (BitVec.ofNat 32 (β (0 : Fin 3)).val).toNat = (β (0 : Fin 3)).val; rw [BitVec.toNat_ofNat]; omega
    | ⟨1, _⟩ => exact (Nat.lt_one_iff.mp h1).symm
    | ⟨2, _⟩ => show (BitVec.ofNat 32 (β (2 : Fin 3)).val).toNat = (β (2 : Fin 3)).val; rw [BitVec.toNat_ofNat]; omega

theorem emb5 (t : Fin (cfgM m hO).N) (o : Fin 64) (τ : Fin 512) :
    (((cfgM m hO).win 5).blk t).view.emb (ix3 0 o τ) = (ix3 (bat m hO t) (o) (tokG m hO t τ) : S2x64x8192.Idx) := by
  refine ext3 ?_ ?_ ?_
  · refine (Pipeline.Window.rect_emb_val ((cfgM m hO).win 5) t (ix3 0 o τ) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 5) t (ix3 0 o τ) (1 : Fin 3)).trans ?_
    show 0 * 64 + o.val = o.val; omega
  · refine (Pipeline.Window.rect_emb_val ((cfgM m hO).win 5) t (ix3 0 o τ) (2 : Fin 3)).trans ?_
    show (BitVec.ofNat 32 (grid0.coords t 1).val).toNat * 512 + τ.val = _
    rw [toNat1]; show (grid0.coords t 1).val * 512 + τ.val = 512 * (grid0.coords t 1).val + τ.val; omega

theorem covers5 : ((cfgM m hO).win 5).Covers := by
  refine ((cfgM m hO).win 5).covers_of_indexMap_surj rfl (fun a => ?_) fun β => ?_
  · revert a; exact (by decide : ∀ a : Fin 3, 0 < S1x64x512.size a)
  · have h0 : (β (0 : Fin 3)).val < 2 := lt_of_lt_of_eq (β (0 : Fin 3)).isLt (by show (S2x64x8192.size (0 : Fin 3) + S1x64x512.size (0 : Fin 3) - 1) / S1x64x512.size (0 : Fin 3) = 2; rfl)
    have h1 : (β (1 : Fin 3)).val < 1 := lt_of_lt_of_eq (β (1 : Fin 3)).isLt (by show (S2x64x8192.size (1 : Fin 3) + S1x64x512.size (1 : Fin 3) - 1) / S1x64x512.size (1 : Fin 3) = 1; rfl)
    have h2 : (β (2 : Fin 3)).val < 16 := lt_of_lt_of_eq (β (2 : Fin 3)).isLt (by show (S2x64x8192.size (2 : Fin 3) + S1x64x512.size (2 : Fin 3) - 1) / S1x64x512.size (2 : Fin 3) = 16; rfl)
    refine ⟨fun a => match a with | ⟨0, _⟩ => ⟨_, h0⟩ | ⟨1, _⟩ => ⟨_, h2⟩, fun a => ?_⟩
    match a with
    | ⟨0, _⟩ => show (BitVec.ofNat 32 (β (0 : Fin 3)).val).toNat = (β (0 : Fin 3)).val; rw [BitVec.toNat_ofNat]; omega
    | ⟨1, _⟩ => exact (Nat.lt_one_iff.mp h1).symm
    | ⟨2, _⟩ => show (BitVec.ofNat 32 (β (2 : Fin 3)).val).toNat = (β (2 : Fin 3)).val; rw [BitVec.toNat_ofNat]; omega

theorem emb6 (t : Fin (cfgM m hO).N) (o : Fin 2048) (τ : Fin 512) :
    (((cfgM m hO).win 6).blk t).view.emb (ix3 0 τ o) = (ix3 (bat m hO t) (tokG m hO t τ) (o) : S2x8192x2048.Idx) := by
  refine ext3 ?_ ?_ ?_
  · refine (Pipeline.Window.rect_emb_val ((cfgM m hO).win 6) t (ix3 0 τ o) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 6) t (ix3 0 τ o) (1 : Fin 3)).trans ?_
    show (BitVec.ofNat 32 (grid0.coords t 1).val).toNat * 512 + τ.val = _
    rw [toNat1]; show (grid0.coords t 1).val * 512 + τ.val = 512 * (grid0.coords t 1).val + τ.val; omega
  · refine (Pipeline.Window.rect_emb_val ((cfgM m hO).win 6) t (ix3 0 τ o) (2 : Fin 3)).trans ?_
    show 0 * 2048 + o.val = o.val; omega

theorem covers6 : ((cfgM m hO).win 6).Covers := by
  refine ((cfgM m hO).win 6).covers_of_indexMap_surj rfl (fun a => ?_) fun β => ?_
  · revert a; exact (by decide : ∀ a : Fin 3, 0 < S1x512x2048.size a)
  · have h0 : (β (0 : Fin 3)).val < 2 := lt_of_lt_of_eq (β (0 : Fin 3)).isLt (by show (S2x8192x2048.size (0 : Fin 3) + S1x512x2048.size (0 : Fin 3) - 1) / S1x512x2048.size (0 : Fin 3) = 2; rfl)
    have h1 : (β (1 : Fin 3)).val < 16 := lt_of_lt_of_eq (β (1 : Fin 3)).isLt (by show (S2x8192x2048.size (1 : Fin 3) + S1x512x2048.size (1 : Fin 3) - 1) / S1x512x2048.size (1 : Fin 3) = 16; rfl)
    have h2 : (β (2 : Fin 3)).val < 1 := lt_of_lt_of_eq (β (2 : Fin 3)).isLt (by show (S2x8192x2048.size (2 : Fin 3) + S1x512x2048.size (2 : Fin 3) - 1) / S1x512x2048.size (2 : Fin 3) = 1; rfl)
    refine ⟨fun a => match a with | ⟨0, _⟩ => ⟨_, h0⟩ | ⟨1, _⟩ => ⟨_, h1⟩, fun a => ?_⟩
    match a with
    | ⟨0, _⟩ => show (BitVec.ofNat 32 (β (0 : Fin 3)).val).toNat = (β (0 : Fin 3)).val; rw [BitVec.toNat_ofNat]; omega
    | ⟨1, _⟩ => show (BitVec.ofNat 32 (β (1 : Fin 3)).val).toNat = (β (1 : Fin 3)).val; rw [BitVec.toNat_ofNat]; omega
    | ⟨2, _⟩ => exact (Nat.lt_one_iff.mp h2).symm

theorem emb7 (t : Fin (cfgM m hO).N) (o : Fin 16) (τ : Fin 512) :
    (((cfgM m hO).win 7).blk t).view.emb (ix3 0 o τ) = (ix3 (bat m hO t) (o) (tokG m hO t τ) : S2x16x8192.Idx) := by
  refine ext3 ?_ ?_ ?_
  · refine (Pipeline.Window.rect_emb_val ((cfgM m hO).win 7) t (ix3 0 o τ) (0 : Fin 3)).trans ?_
    show (BitVec.ofNat 32 (grid0.coords t 0).val).toNat * 1 + 0 = _
    rw [toNat0]; show (grid0.coords t 0).val * 1 + 0 = (grid0.coords t 0).val; omega
  · refine (Pipeline.Window.rect_emb_val ((cfgM m hO).win 7) t (ix3 0 o τ) (1 : Fin 3)).trans ?_
    show 0 * 16 + o.val = o.val; omega
  · refine (Pipeline.Window.rect_emb_val ((cfgM m hO).win 7) t (ix3 0 o τ) (2 : Fin 3)).trans ?_
    show (BitVec.ofNat 32 (grid0.coords t 1).val).toNat * 512 + τ.val = _
    rw [toNat1]; show (grid0.coords t 1).val * 512 + τ.val = 512 * (grid0.coords t 1).val + τ.val; omega

theorem covers7 : ((cfgM m hO).win 7).Covers := by
  refine ((cfgM m hO).win 7).covers_of_indexMap_surj rfl (fun a => ?_) fun β => ?_
  · revert a; exact (by decide : ∀ a : Fin 3, 0 < S1x16x512.size a)
  · have h0 : (β (0 : Fin 3)).val < 2 := lt_of_lt_of_eq (β (0 : Fin 3)).isLt (by show (S2x16x8192.size (0 : Fin 3) + S1x16x512.size (0 : Fin 3) - 1) / S1x16x512.size (0 : Fin 3) = 2; rfl)
    have h1 : (β (1 : Fin 3)).val < 1 := lt_of_lt_of_eq (β (1 : Fin 3)).isLt (by show (S2x16x8192.size (1 : Fin 3) + S1x16x512.size (1 : Fin 3) - 1) / S1x16x512.size (1 : Fin 3) = 1; rfl)
    have h2 : (β (2 : Fin 3)).val < 16 := lt_of_lt_of_eq (β (2 : Fin 3)).isLt (by show (S2x16x8192.size (2 : Fin 3) + S1x16x512.size (2 : Fin 3) - 1) / S1x16x512.size (2 : Fin 3) = 16; rfl)
    refine ⟨fun a => match a with | ⟨0, _⟩ => ⟨_, h0⟩ | ⟨1, _⟩ => ⟨_, h2⟩, fun a => ?_⟩
    match a with
    | ⟨0, _⟩ => show (BitVec.ofNat 32 (β (0 : Fin 3)).val).toNat = (β (0 : Fin 3)).val; rw [BitVec.toNat_ofNat]; omega
    | ⟨1, _⟩ => exact (Nat.lt_one_iff.mp h1).symm
    | ⟨2, _⟩ => show (BitVec.ofNat 32 (β (2 : Fin 3)).val).toNat = (β (2 : Fin 3)).val; rw [BitVec.toNat_ofNat]; omega

/-- A token's position, from its block's. -/
theorem pos_tok (t : Fin (cfgM m hO).N) (τ : Fin 512) :
    pos0 (grid0.coords t) (tbl m 0 (ix1 (grid0.coords t 0))) + BitVec.ofNat 32 τ.val = Pw m c (bat m hO t) + BitVec.ofNat 32 (tokG m hO t τ).val := by
  have e : tbl m 0 (ix1 (grid0.coords t 0)) = Pw m c (bat m hO t) := tbl_at m c (bat m hO t)
  have h1 : (grid0.coords t 1).val < 16 := (grid0.coords t 1).isLt
  have h2 := τ.isLt
  refine (congrArg (fun p : BitVec 32 => pos0 (grid0.coords t) p + BitVec.ofNat 32 τ.val) e).trans ?_
  show Pw m c (bat m hO t) + BitVec.ofNat 32 (grid0.coords t 1).val * 512#32 + BitVec.ofNat 32 τ.val = Pw m c (bat m hO t) + BitVec.ofNat 32 (512 * (grid0.coords t 1).val + τ.val)
  rw [BitVec.add_assoc]
  congr 1
  apply BitVec.eq_of_toNat_eq
  simp only [BitVec.toNat_add, BitVec.toNat_mul, BitVec.toNat_ofNat]
  omega

/-- The codes, channels first, -/
def A3 : Vec Ideal S2x2048x8192 .fp8e4m3 := fun i => Spec.code (Spec.q (Rw m c (i 0) (i 2)) (Gw m c) (Spec.grp (i 1))) (Spec.norm (Rw m c (i 0) (i 2)) (Gw m c) (i 1))

/-- the scales' bytes, -/
def A4 : Vec Ideal S2x64x8192 .i8 := fun i => Spec.byte (Spec.word (Spec.q (Rw m c (i 0) (i 2)) (Gw m c) ⟨(i 1).val / 4, by have : (i 1).val < 64 := (i 1).isLt; omega⟩)) ((i 1).val % 4)

/-- the rotated keys, -/
def A5 : Vec Ideal S2x64x8192 .bf16 := fun i => Spec.rope (Pw m c (i 0) + BitVec.ofNat 32 (i 2).val) freqK (Kw m c (i 0) (i 2)) (i 1)

/-- the codes, tokens first, -/
def A6 : Vec Ideal S2x8192x2048 .fp8e4m3 := fun i => Spec.code (Spec.q (Rw m c (i 0) (i 1)) (Gw m c) (Spec.grp (i 2))) (Spec.norm (Rw m c (i 0) (i 1)) (Gw m c) (i 2))

/-- and the scales, over the whole arrays. -/
def A7 : Vec Ideal S2x16x8192 .f32 := fun i => Ideal.ofBits .f32 (Spec.word (Spec.q (Rw m c (i 0) (i 2)) (Gw m c) (i 1)))

theorem final_3 : (dats m hO 0 c).arrAt 3 (cfgM m hO).N = A3 m c := by
  refine (dats m hO 0 c).arrAt_eq_of_covers 3 _ (covers3 m hO) fun t hf y => ?_
  blk_simp
  rw [after0_3, outs_3]
  have h0 : (y (0 : Fin 3)).val < 1 := (y (0 : Fin 3)).isLt
  have ey : (y : S1x2048x512.Idx) = ix3 0 (y (1 : Fin 3)) (y (2 : Fin 3)) := ext3 (by show (y (0 : Fin 3)).val = 0; omega) rfl rfl
  have e := (congrArg (((cfgM m hO).win 3).blk t).view.emb ey).trans (emb3 m hO t (y (1 : Fin 3)) (y (2 : Fin 3)))
  refine Eq.trans ?_ (congrArg (A3 m c) e).symm
  rfl

theorem final_4 : (dats m hO 0 c).arrAt 4 (cfgM m hO).N = A4 m c := by
  refine (dats m hO 0 c).arrAt_eq_of_covers 4 _ (covers4 m hO) fun t hf y => ?_
  blk_simp
  rw [after0_4, outs_4]
  have h0 : (y (0 : Fin 3)).val < 1 := (y (0 : Fin 3)).isLt
  have ey : (y : S1x64x512.Idx) = ix3 0 (y (1 : Fin 3)) (y (2 : Fin 3)) := ext3 (by show (y (0 : Fin 3)).val = 0; omega) rfl rfl
  have e := (congrArg (((cfgM m hO).win 4).blk t).view.emb ey).trans (emb4 m hO t (y (1 : Fin 3)) (y (2 : Fin 3)))
  refine Eq.trans ?_ (congrArg (A4 m c) e).symm
  rfl

theorem final_5 : (dats m hO 0 c).arrAt 5 (cfgM m hO).N = A5 m c := by
  refine (dats m hO 0 c).arrAt_eq_of_covers 5 _ (covers5 m hO) fun t hf y => ?_
  blk_simp
  rw [after0_5, outs_5]
  have h0 : (y (0 : Fin 3)).val < 1 := (y (0 : Fin 3)).isLt
  have ey : (y : S1x64x512.Idx) = ix3 0 (y (1 : Fin 3)) (y (2 : Fin 3)) := ext3 (by show (y (0 : Fin 3)).val = 0; omega) rfl rfl
  have e := (congrArg (((cfgM m hO).win 5).blk t).view.emb ey).trans (emb5 m hO t (y (1 : Fin 3)) (y (2 : Fin 3)))
  refine Eq.trans ?_ (congrArg (A5 m c) e).symm
  exact congrArg (fun p : BitVec 32 => Spec.rope p freqK (Kw m c (bat m hO t) (tokG m hO t (y (2 : Fin 3)))) (y (1 : Fin 3))) (pos_tok m hO c t (y (2 : Fin 3)))

theorem final_6 : (dats m hO 0 c).arrAt 6 (cfgM m hO).N = A6 m c := by
  refine (dats m hO 0 c).arrAt_eq_of_covers 6 _ (covers6 m hO) fun t hf y => ?_
  blk_simp
  rw [after0_6, outs_6]
  have h0 : (y (0 : Fin 3)).val < 1 := (y (0 : Fin 3)).isLt
  have ey : (y : S1x512x2048.Idx) = ix3 0 (y (1 : Fin 3)) (y (2 : Fin 3)) := ext3 (by show (y (0 : Fin 3)).val = 0; omega) rfl rfl
  have e := (congrArg (((cfgM m hO).win 6).blk t).view.emb ey).trans (emb6 m hO t (y (2 : Fin 3)) (y (1 : Fin 3)))
  refine Eq.trans ?_ (congrArg (A6 m c) e).symm
  rfl

theorem final_7 : (dats m hO 0 c).arrAt 7 (cfgM m hO).N = A7 m c := by
  refine (dats m hO 0 c).arrAt_eq_of_covers 7 _ (covers7 m hO) fun t hf y => ?_
  blk_simp
  rw [after0_7, outs_7]
  have h0 : (y (0 : Fin 3)).val < 1 := (y (0 : Fin 3)).isLt
  have ey : (y : S1x16x512.Idx) = ix3 0 (y (1 : Fin 3)) (y (2 : Fin 3)) := ext3 (by show (y (0 : Fin 3)).val = 0; omega) rfl rfl
  have e := (congrArg (((cfgM m hO).win 7).blk t).view.emb ey).trans (emb7 m hO t (y (1 : Fin 3)) (y (2 : Fin 3)))
  refine Eq.trans ?_ (congrArg (A7 m c) e).symm
  rfl

/-- The kernel's run: its five results, the arguments unchanged. -/
theorem run (ρ : Dev nD → PrngReg) : θ_run defs (onTc (τ := τ) (main (F := Ideal))) ⟨m, fun _ => 0, ρ⟩ fun r => ∀ c : Dev nD,
      r.2.mem (c.tc.loc main_v9_0) = A3 m c ∧ r.2.mem (c.tc.loc main_v9_1) = A4 m c ∧ r.2.mem (c.tc.loc main_v9_2) = A5 m c
      ∧ r.2.mem (c.tc.loc main_v9_3) = A6 m c ∧ r.2.mem (c.tc.loc main_v9_4) = A7 m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) := by
  have hO : Ok m := trivial
  refine (θ_run defs _ _).mono (fun r h c => ?_) (run_main m ρ hO)
  exact ⟨((h c).1 3).trans (final_3 m hO c), ((h c).1 4).trans (final_4 m hO c), ((h c).1 5).trans (final_5 m hO c),
    ((h c).1 6).trans (final_6 m hO c), ((h c).1 7).trans (final_7 m hO c),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c)⟩

end Cert.KernelIdeal.Tile
-- ==== Proof.RefRead.lean ====
/- The reference read at an index: every intermediate array the results come from. -/
module

public import proofs.«01_k».proof.Proof.Spec
public import proofs.«01_k».proof.Proof.Gen.ReferenceIdeal.Frame
public import Idealize.ShloMosaic.Lib.Pipeline.ValueKit
public import Idealize.ShloMosaic.Lib.StableHlo.ReadAt
public import Idealize.ShloMosaic.Lib.Claim

@[expose] public section

set_option maxRecDepth 16384
noncomputable section

namespace Cert.ReferenceIdeal.Val

open Idealize.ShloMosaic.StableHlo (after)
open Cert.ReferenceIdeal Cert.ReferenceIdeal.Gen
open Idealize.ShloMosaic Idealize.ShloMosaic.TcCoe Idealize.SL.Sem

variable (m : (ℓ : Loc nD τ sig) → Buf (Elt Ideal) ℓ) (c : Dev nD) (U : Valuation τ sig (Elt Ideal))

/-- The first operations: to the groups' quotients. -/
abbrev hA {F : FTy → Type} [FloatOps F] : List (HloOp τ sig (Elt F)) :=
  ( StableHlo.unary main_arg0 main_v0 ((extractStridedSlice S2x8192x2048 ![0, 0, 0] · slices_S2x8192x2112_S2x8192x2048_0_0_0) : (⟨S2x8192x2112, .bf16⟩ : BufTy).Contents (Elt F) → (⟨S2x8192x2048, .bf16⟩ : BufTy).Contents (Elt F))
  :: StableHlo.unary main_v0 main_v1 ((extf .f32 · bitsLt_bf16_f32) : (⟨S2x8192x2048, .bf16⟩ : BufTy).Contents (Elt F) → (⟨S2x8192x2048, .f32⟩ : BufTy).Contents (Elt F))
  :: StableHlo.unary main_arg0 main_v2 ((extractStridedSlice S2x8192x64 ![0, 0, 2048] · slices_S2x8192x2112_S2x8192x64_0_0_2048) : (⟨S2x8192x2112, .bf16⟩ : BufTy).Contents (Elt F) → (⟨S2x8192x64, .bf16⟩ : BufTy).Contents (Elt F))
  :: StableHlo.unary main_v2 main_v3 ((extf .f32 · bitsLt_bf16_f32) : (⟨S2x8192x64, .bf16⟩ : BufTy).Contents (Elt F) → (⟨S2x8192x64, .f32⟩ : BufTy).Contents (Elt F))
  :: StableHlo.binary main_v1 main_v1 main_v4 (mulf : (⟨S2x8192x2048, .f32⟩ : BufTy).Contents (Elt F) → (⟨S2x8192x2048, .f32⟩ : BufTy).Contents (Elt F) → (⟨S2x8192x2048, .f32⟩ : BufTy).Contents (Elt F))
  :: StableHlo.nullary main_cst (constant S_ .f32 0x00000000#32)
  :: StableHlo.binary main_v4 main_cst main_v5 ((fun x v => Host.reduceAdd x v reducesTo_S2x8192x2048_S2x8192_d2 h_S_) : (⟨S2x8192x2048, .f32⟩ : BufTy).Contents (Elt F) → (⟨S_, .f32⟩ : BufTy).Contents (Elt F) → (⟨S2x8192, .f32⟩ : BufTy).Contents (Elt F))
  :: StableHlo.unary main_v5 main_v6 (broadcastInDim S2x8192x1 ![0, 1] bcast_S2x8192_S2x8192x1_0_1 : (⟨S2x8192, .f32⟩ : BufTy).Contents (Elt F) → (⟨S2x8192x1, .f32⟩ : BufTy).Contents (Elt F))
  :: StableHlo.nullary main_cst_0 (constant S_ .f32 0x45000000#32)
  :: StableHlo.unary main_cst_0 main_v7 (broadcastInDim S2x8192x1 ![] bcast_S_S2x8192x1 : (⟨S_, .f32⟩ : BufTy).Contents (Elt F) → (⟨S2x8192x1, .f32⟩ : BufTy).Contents (Elt F))
  :: StableHlo.binary main_v6 main_v7 main_v8 (Host.divf : (⟨S2x8192x1, .f32⟩ : BufTy).Contents (Elt F) → (⟨S2x8192x1, .f32⟩ : BufTy).Contents (Elt F) → (⟨S2x8192x1, .f32⟩ : BufTy).Contents (Elt F))
  :: StableHlo.nullary main_cst_1 (constant S_ .f32 0x358637BD#32)
  :: StableHlo.unary main_cst_1 main_v9 (broadcastInDim S2x8192x1 ![] bcast_S_S2x8192x1 : (⟨S_, .f32⟩ : BufTy).Contents (Elt F) → (⟨S2x8192x1, .f32⟩ : BufTy).Contents (Elt F))
  :: StableHlo.binary main_v8 main_v9 main_v10 (addf : (⟨S2x8192x1, .f32⟩ : BufTy).Contents (Elt F) → (⟨S2x8192x1, .f32⟩ : BufTy).Contents (Elt F) → (⟨S2x8192x1, .f32⟩ : BufTy).Contents (Elt F))
  :: StableHlo.unary main_v10 main_v11 (Host.rsqrt : (⟨S2x8192x1, .f32⟩ : BufTy).Contents (Elt F) → (⟨S2x8192x1, .f32⟩ : BufTy).Contents (Elt F))
  :: StableHlo.unary main_v11 main_v12 (broadcastInDim S2x8192x2048 ![0, 1, 2] bcast_S2x8192x1_S2x8192x2048_0_1_2 : (⟨S2x8192x1, .f32⟩ : BufTy).Contents (Elt F) → (⟨S2x8192x2048, .f32⟩ : BufTy).Contents (Elt F))
  :: StableHlo.binary main_v1 main_v12 main_v13 (mulf : (⟨S2x8192x2048, .f32⟩ : BufTy).Contents (Elt F) → (⟨S2x8192x2048, .f32⟩ : BufTy).Contents (Elt F) → (⟨S2x8192x2048, .f32⟩ : BufTy).Contents (Elt F))
  :: StableHlo.unary main_arg1 main_v14 (broadcastInDim S1x1x2048 ![2] bcast_S2048_S1x1x2048_2 : (⟨S2048, .f32⟩ : BufTy).Contents (Elt F) → (⟨S1x1x2048, .f32⟩ : BufTy).Contents (Elt F))
  :: StableHlo.unary main_v14 main_v15 (broadcastInDim S2x8192x2048 ![0, 1, 2] bcast_S1x1x2048_S2x8192x2048_0_1_2 : (⟨S1x1x2048, .f32⟩ : BufTy).Contents (Elt F) → (⟨S2x8192x2048, .f32⟩ : BufTy).Contents (Elt F))
  :: StableHlo.binary main_v13 main_v15 main_v16 (mulf : (⟨S2x8192x2048, .f32⟩ : BufTy).Contents (Elt F) → (⟨S2x8192x2048, .f32⟩ : BufTy).Contents (Elt F) → (⟨S2x8192x2048, .f32⟩ : BufTy).Contents (Elt F))
  :: StableHlo.reshape main_v16 main_v17 (rfl : (.f32 : EltTy) = .f32) shapeCasts_S2x8192x2048_S2x8192x16x128
  :: StableHlo.unary main_v17 main_v18 (Host.absf : (⟨S2x8192x16x128, .f32⟩ : BufTy).Contents (Elt F) → (⟨S2x8192x16x128, .f32⟩ : BufTy).Contents (Elt F))
  :: StableHlo.nullary main_cst_2 (constant S_ .f32 0xFF800000#32)
  :: StableHlo.binary main_v18 main_cst_2 main_v19 ((fun x v => Host.reduce FloatOps.maximumf x v reducesTo_S2x8192x16x128_S2x8192x16_d3 h_S_) : (⟨S2x8192x16x128, .f32⟩ : BufTy).Contents (Elt F) → (⟨S_, .f32⟩ : BufTy).Contents (Elt F) → (⟨S2x8192x16, .f32⟩ : BufTy).Contents (Elt F))
  :: StableHlo.nullary main_cst_3 (constant S_ .f32 0x3B124925#32)
  :: StableHlo.unary main_cst_3 main_v20 (broadcastInDim S2x8192x16 ![] bcast_S_S2x8192x16 : (⟨S_, .f32⟩ : BufTy).Contents (Elt F) → (⟨S2x8192x16, .f32⟩ : BufTy).Contents (Elt F))
  :: StableHlo.binary main_v19 main_v20 main_v21 (mulf : (⟨S2x8192x16, .f32⟩ : BufTy).Contents (Elt F) → (⟨S2x8192x16, .f32⟩ : BufTy).Contents (Elt F) → (⟨S2x8192x16, .f32⟩ : BufTy).Contents (Elt F))
  :: [] )

/-- The next: the powers of two and how many of them are at most the quotient. -/
abbrev hB {F : FTy → Type} [FloatOps F] : List (HloOp τ sig (Elt F)) :=
  ( StableHlo.nullary main_v22 (iotaInDim S252 32 0)
  :: StableHlo.nullary main_c (constantI S_ 32 4294967170#32)
  :: StableHlo.unary main_c main_v23 (broadcastInDim S252 ![] bcast_S_S252 : (⟨S_, .i32⟩ : BufTy).Contents (Elt F) → (⟨S252, .i32⟩ : BufTy).Contents (Elt F))
  :: StableHlo.binary main_v23 main_v22 main_v24 (addi : (⟨S252, .i32⟩ : BufTy).Contents (Elt F) → (⟨S252, .i32⟩ : BufTy).Contents (Elt F) → (⟨S252, .i32⟩ : BufTy).Contents (Elt F))
  :: StableHlo.unary main_v24 main_v25 (sitofp .f32 : (⟨S252, .i32⟩ : BufTy).Contents (Elt F) → (⟨S252, .f32⟩ : BufTy).Contents (Elt F))
  :: StableHlo.nullary main_cst_4 (constant S_ .f32 0x40000000#32)
  :: StableHlo.unary main_cst_4 main_v26 (broadcastInDim S252 ![] bcast_S_S252 : (⟨S_, .f32⟩ : BufTy).Contents (Elt F) → (⟨S252, .f32⟩ : BufTy).Contents (Elt F))
  :: StableHlo.binary main_v26 main_v25 main_v27 (Host.powf : (⟨S252, .f32⟩ : BufTy).Contents (Elt F) → (⟨S252, .f32⟩ : BufTy).Contents (Elt F) → (⟨S252, .f32⟩ : BufTy).Contents (Elt F))
  :: StableHlo.unary main_v21 main_v28 (broadcastInDim S2x8192x16x1 ![0, 1, 2] bcast_S2x8192x16_S2x8192x16x1_0_1_2 : (⟨S2x8192x16, .f32⟩ : BufTy).Contents (Elt F) → (⟨S2x8192x16x1, .f32⟩ : BufTy).Contents (Elt F))
  :: StableHlo.unary main_v27 main_v29 (broadcastInDim S1x1x1x252 ![3] bcast_S252_S1x1x1x252_3 : (⟨S252, .f32⟩ : BufTy).Contents (Elt F) → (⟨S1x1x1x252, .f32⟩ : BufTy).Contents (Elt F))
  :: StableHlo.unary main_v28 main_v30 (broadcastInDim S2x8192x16x252 ![0, 1, 2, 3] bcast_S2x8192x16x1_S2x8192x16x252_0_1_2_3 : (⟨S2x8192x16x1, .f32⟩ : BufTy).Contents (Elt F) → (⟨S2x8192x16x252, .f32⟩ : BufTy).Contents (Elt F))
  :: StableHlo.unary main_v29 main_v31 (broadcastInDim S2x8192x16x252 ![0, 1, 2, 3] bcast_S1x1x1x252_S2x8192x16x252_0_1_2_3 : (⟨S1x1x1x252, .f32⟩ : BufTy).Contents (Elt F) → (⟨S2x8192x16x252, .f32⟩ : BufTy).Contents (Elt F))
  :: StableHlo.binary main_v30 main_v31 main_v32 (cmpf .oge : (⟨S2x8192x16x252, .f32⟩ : BufTy).Contents (Elt F) → (⟨S2x8192x16x252, .f32⟩ : BufTy).Contents (Elt F) → (⟨S2x8192x16x252, .i1⟩ : BufTy).Contents (Elt F))
  :: StableHlo.unary main_v32 main_v33 ((extui 32 · natLt_1_32) : (⟨S2x8192x16x252, .i1⟩ : BufTy).Contents (Elt F) → (⟨S2x8192x16x252, .i32⟩ : BufTy).Contents (Elt F))
  :: StableHlo.nullary main_c_5 (constantI S_ 32 0#32)
  :: StableHlo.binary main_v33 main_c_5 main_v34 ((fun x v => Host.reduce IntOp.addi x v reducesTo_S2x8192x16x252_S2x8192x16_d3 h_S_) : (⟨S2x8192x16x252, .i32⟩ : BufTy).Contents (Elt F) → (⟨S_, .i32⟩ : BufTy).Contents (Elt F) → (⟨S2x8192x16, .i32⟩ : BufTy).Contents (Elt F))
  :: [] )

/-- The last: the exponent where a scale is needed. -/
abbrev hC {F : FTy → Type} [FloatOps F] : List (HloOp τ sig (Elt F)) :=
  ( StableHlo.nullary main_c_6 (constantI S_ 32 0#32)
  :: StableHlo.unary main_c_6 main_v35 (broadcastInDim S2x8192x16 ![] bcast_S_S2x8192x16 : (⟨S_, .i32⟩ : BufTy).Contents (Elt F) → (⟨S2x8192x16, .i32⟩ : BufTy).Contents (Elt F))
  :: StableHlo.binary main_v34 main_v35 main_v36 (cmpi .eq : (⟨S2x8192x16, .i32⟩ : BufTy).Contents (Elt F) → (⟨S2x8192x16, .i32⟩ : BufTy).Contents (Elt F) → (⟨S2x8192x16, .i1⟩ : BufTy).Contents (Elt F))
  :: StableHlo.nullary main_cst_7 (constant S_ .f32 0x7F800000#32)
  :: StableHlo.unary main_cst_7 main_v37 (broadcastInDim S2x8192x16 ![] bcast_S_S2x8192x16 : (⟨S_, .f32⟩ : BufTy).Contents (Elt F) → (⟨S2x8192x16, .f32⟩ : BufTy).Contents (Elt F))
  :: StableHlo.binary main_v21 main_v37 main_v38 (cmpf .oeq : (⟨S2x8192x16, .f32⟩ : BufTy).Contents (Elt F) → (⟨S2x8192x16, .f32⟩ : BufTy).Contents (Elt F) → (⟨S2x8192x16, .i1⟩ : BufTy).Contents (Elt F))
  :: StableHlo.binary main_v36 main_v38 main_v39 (ori : (⟨S2x8192x16, .i1⟩ : BufTy).Contents (Elt F) → (⟨S2x8192x16, .i1⟩ : BufTy).Contents (Elt F) → (⟨S2x8192x16, .i1⟩ : BufTy).Contents (Elt F))
  :: StableHlo.nullary main_c_8 (constantI S_ 32 126#32)
  :: StableHlo.unary main_c_8 main_v40 (broadcastInDim S2x8192x16 ![] bcast_S_S2x8192x16 : (⟨S_, .i32⟩ : BufTy).Contents (Elt F) → (⟨S2x8192x16, .i32⟩ : BufTy).Contents (Elt F))
  :: StableHlo.binary main_v34 main_v40 main_v41 (subi : (⟨S2x8192x16, .i32⟩ : BufTy).Contents (Elt F) → (⟨S2x8192x16, .i32⟩ : BufTy).Contents (Elt F) → (⟨S2x8192x16, .i32⟩ : BufTy).Contents (Elt F))
  :: StableHlo.nullary main_c_9 (constantI S_ 32 0#32)
  :: [] )

theorem hostOps0_split : (hostOps0 : List (HloOp τ sig (Elt Ideal))) = hA ++ (hB ++ hC) := rfl

theorem V_split (b : Ref sig .tc) : V m c b = after hostOps0_4 (after hostOps0_3 (after hostOps0_2 (after hostOps0_1 (after hC (after hB (after hA (fun b => m (c, b)))))))) b := by
  unfold V
  simp only [List.flatten_cons, List.flatten_nil, List.append_nil, StableHlo.after_append, hostOps0_split]

/-- A row's reciprocal root mean square, the mean by a division. -/
def rinvR (x : Fin 2048 → EReal) : EReal := Ideal.rsqrt (Ideal.div (∑ c, x c * x c) (Ideal.ofBits .f32 0x45000000#32) + Ideal.ofBits .f32 0x358637BD#32)

theorem v17_at (b : Fin 2) (T : Fin 8192) (g : Fin 16) (l : Fin 128) (x γ : Fin 2048 → EReal) (hx : ∀ (ch : Fin 2048) (h : ch.val < 2112), U main_arg0 (ix3 b T ⟨ch.val, h⟩) = x ch) (hg : ∀ ch, U main_arg1 (ix1 ch) = γ ch) :
    after hA U main_v17 (ix4 b T g l) = x (Spec.chan g l) * rinvR x * γ (Spec.chan g l) := by
  after_reads_at
  have e : (⟨g.val * 128 + l.val, by omega⟩ : Fin 2048) = Spec.chan g l := Fin.ext (by show g.val * 128 + l.val = 128 * g.val + l.val; omega)
  rw [← hg, ← e, ← hx _ (by show g.val * 128 + l.val < 2112; omega)]
  unfold rinvR
  simp only [← fun ch : Fin 2048 => hx ch (by omega)]

theorem v21_eq : after hA U main_v21 = mulf (F := Ideal) (φ := .f32) (Host.reduce (FloatOps.maximumf (F := Ideal)) (Host.absf (F := Ideal) (φ := .f32) (after hA U main_v17 : (⟨S2x8192x16x128, .f32⟩ : BufTy).Contents (Elt Ideal))) (constant S_ .f32 0xFF800000#32) reducesTo_S2x8192x16x128_S2x8192x16_d3 h_S_) (broadcastInDim S2x8192x16 ![] bcast_S_S2x8192x16 (constant (F := Ideal) S_ .f32 0x3B124925#32)) := by
  after_reads_simp

theorem v3_at (b : Fin 2) (T : Fin 8192) (i : Fin 64) : after hA U main_v3 (ix3 b T i) = U main_arg0 (ix3 b T ⟨2048 + i.val, by omega⟩) := by
  after_reads_at

theorem pass_Aarg2 : after hA U main_arg2 = U main_arg2 := by
  after_reads_simp

theorem mul_read (R : FVec Ideal S2x8192x16 .f32) (i : S2x8192x16.Idx) : mulf R (broadcastInDim S2x8192x16 ![] bcast_S_S2x8192x16 (constant (F := Ideal) S_ .f32 0x3B124925#32)) i = R i * Ideal.ofBits .f32 0x3B124925#32 := by
  rfl

theorem quot_read (u : Vec Ideal S2x8192x16x128 .f32) (b : Fin 2) (T : Fin 8192) (g : Fin 16) : mulf (F := Ideal) (φ := .f32) (Host.reduce (FloatOps.maximumf (F := Ideal)) (Host.absf (F := Ideal) (φ := .f32) u) (constant S_ .f32 0xFF800000#32) reducesTo_S2x8192x16x128_S2x8192x16_d3 h_S_) (broadcastInDim S2x8192x16 ![] bcast_S_S2x8192x16 (constant (F := Ideal) S_ .f32 0x3B124925#32)) (ix3 b T g) = Spec.quot (fun l => u (ix4 b T g l)) := by
  have e : Host.reduce (FloatOps.maximumf (F := Ideal)) (Host.absf (F := Ideal) (φ := .f32) u) (constant S_ .f32 0xFF800000#32) reducesTo_S2x8192x16x128_S2x8192x16_d3 h_S_ (ix3 b T g) = Finset.fold max (Ideal.ofBits .f32 0xFF800000#32) (fun l => FloatOps.absf (F := Ideal) (φ := .f32) (u (ix4 b T g l))) Finset.univ := by
    rw [Host.reduce_eq_fold]
    pointwise
  unfold Spec.quot
  rw [mul_read, e]

theorem v21_at (b : Fin 2) (T : Fin 8192) (g : Fin 16) : after hA U main_v21 (ix3 b T g) = Spec.quot (fun l => after hA U main_v17 (ix4 b T g l)) := by
  rw [v21_eq]
  generalize (after hA U main_v17 : (⟨S2x8192x16x128, .f32⟩ : BufTy).Contents (Elt Ideal)) = u
  exact quot_read u b T g

theorem v34_at (b : Fin 2) (T : Fin 8192) (g : Fin 16) (q : EReal) (hq : U main_v21 (ix3 b T g) = q) : after hB U main_v34 (ix3 b T g) = Finset.fold IntOp.addi (0#32) (fun x : Fin 252 => BitVec.setWidth 32 (BitVec.ofBool (decide (Ideal.pow (Ideal.ofBits FTy.f32 1073741824#32) (FloatOps.sitofp (F := Ideal) FTy.f32 (IntOp.addi (4294967170#32) (BitVec.ofNat 32 x.val))) ≤ q)))) Finset.univ := by
  subst hq
  after_reads_at

theorem pass_Bv21 : after hB U main_v21 = U main_v21 := by
  after_reads_simp

theorem pass_Bv17 : after hB U main_v17 = U main_v17 := by
  after_reads_simp

theorem pass_Bv3 : after hB U main_v3 = U main_v3 := by
  after_reads_simp

theorem pass_Barg2 : after hB U main_arg2 = U main_arg2 := by
  after_reads_simp

theorem v42_at (b : Fin 2) (T : Fin 8192) (g : Fin 16) (n : BitVec 32) (q : EReal) (hn : U main_v34 (ix3 b T g) = n) (hq : U main_v21 (ix3 b T g) = q) :
    after hostOps0_1 (after hC U) main_v42 (ix3 b T g) = if n = 0#32 ∨ q = Ideal.ofBits .f32 0x7F800000#32 then 0#32 else n - 126#32 := by
  after_reads_at
  simp only [hn, hq]
  show Scalar.select (IntOp.ori (IntOp.cmpi CmpIPredicate.eq n 0#32) (BitVec.ofBool (decide (q = Ideal.ofBits FTy.f32 2139095040#32)))) 0#32 (n - 126#32) = _
  by_cases h1 : n = 0#32
  · by_cases h2 : q = Ideal.ofBits FTy.f32 2139095040#32 <;> simp [h1, h2, Scalar.select, IntOp.ori, IntOp.cmpi]
  · have hb : (n == 0#32) = false := by simp [h1]
    by_cases h2 : q = Ideal.ofBits FTy.f32 2139095040#32 <;> simp [h1, h2, hb, Scalar.select, IntOp.ori, IntOp.cmpi]

theorem pass_Cv17 : after hostOps0_1 (after hC U) main_v17 = U main_v17 := by
  after_reads_simp

theorem pass_Cv3 : after hostOps0_1 (after hC U) main_v3 = U main_v3 := by
  after_reads_simp

theorem pass_Carg2 : after hostOps0_1 (after hC U) main_arg2 = U main_arg2 := by
  after_reads_simp

theorem v55_at (b : Fin 2) (T : Fin 8192) (g : Fin 16) (l : Fin 128) (y : EReal) (e : BitVec 32) (hy : U main_v17 (ix4 b T g l) = y) (he : U main_v42 (ix3 b T g) = e) :
    after hostOps0_3 (after hostOps0_2 U) main_v55 (ix4 b T g l) = min (Ideal.ofBits .f32 0x43E00000#32) (max (Ideal.ofBits .f32 0xC3E00000#32) (y * Ideal.pow (Ideal.ofBits .f32 0x40000000#32) (FloatOps.sitofp (F := Ideal) .f32 (-e)))) := by
  subst hy he
  after_reads_at
  rfl

theorem v45_at (b : Fin 2) (T : Fin 8192) (g : Fin 16) : after hostOps0_3 (after hostOps0_2 U) main_v45 (ix3 b T g) = Ideal.pow (Ideal.ofBits .f32 0x40000000#32) (FloatOps.sitofp (F := Ideal) .f32 (U main_v42 (ix3 b T g))) := by
  after_reads_at

theorem pass_v42 : after hostOps0_3 (after hostOps0_2 U) main_v42 = U main_v42 := by
  after_reads_simp

theorem pass_v3 : after hostOps0_3 (after hostOps0_2 U) main_v3 = U main_v3 := by
  after_reads_simp

theorem pass_arg2 : after hostOps0_3 (after hostOps0_2 U) main_arg2 = U main_arg2 := by
  after_reads_simp

theorem v112_at (b : Fin 2) (T : Fin 8192) (ch : Fin 2048) : after hostOps0_4 U main_v112 (ix3 b ch T) = U main_v55 (ix4 b T (Spec.grp ch) ⟨ch.val % 128, by omega⟩) := by
  after_reads_at
  rfl

theorem v116_at (b : Fin 2) (T : Fin 8192) (g : Fin 16) : after hostOps0_4 U main_v116 (ix3 b g T) = U main_v45 (ix3 b T g) := by
  after_reads_at

theorem v56_at (b : Fin 2) (T : Fin 8192) (ch : Fin 2048) : after hostOps0_4 U main_v56 (ix3 b T ch) = U main_v55 (ix4 b T (Spec.grp ch) ⟨ch.val % 128, by omega⟩) := by
  after_reads_at
  rfl

/-- A token's angle for a rotary pair. -/
def angR (p : BitVec 32) (i : Fin 32) : EReal := FloatOps.sitofp (F := Ideal) .f32 p * Ideal.pow (Ideal.ofBits FTy.f32 0x461C4000#32) (Ideal.ofBits FTy.f32 0xBD000000#32 * FloatOps.sitofp (F := Ideal) FTy.f32 (BitVec.ofNat 32 i.val))

theorem v115_eq : after hostOps0_4 U main_v115 = transpose S2x64x8192 [0, 2, 1] (truncf (F := Ideal) .bf16 (concatenate S2x8192x64 2 [⟨S2x8192x32, (after hostOps0_4 U main_v106 : (⟨S2x8192x32, .f32⟩ : BufTy).Contents (Elt Ideal))⟩, ⟨S2x8192x32, (after hostOps0_4 U main_v109 : (⟨S2x8192x32, .f32⟩ : BufTy).Contents (Elt Ideal))⟩] concatenates_S2x8192x32_S2x8192x32_S2x8192x64_d2) bitsLt_bf16_f32) transposes_S2x8192x64_S2x64x8192_0_2_1 := by
  after_reads_simp
  rfl

theorem v106_at (b : Fin 2) (T : Fin 8192) (i : Fin 32) (k : Fin 64 → EReal) (p : BitVec 32) (hk : ∀ j, U main_v3 (ix3 b T j) = k j) (hp : U main_arg2 (ix1 b) = p) :
    after hostOps0_4 U main_v106 (ix3 b T i) = k ⟨i.val, by omega⟩ * Ideal.cos (angR (p + BitVec.ofNat 32 T.val) i) - k ⟨32 + i.val, by omega⟩ * Ideal.sin (angR (p + BitVec.ofNat 32 T.val) i) := by
  subst hp
  simp only [← hk]
  unfold angR
  after_reads_at
  rfl

theorem v109_at (b : Fin 2) (T : Fin 8192) (i : Fin 32) (k : Fin 64 → EReal) (p : BitVec 32) (hk : ∀ j, U main_v3 (ix3 b T j) = k j) (hp : U main_arg2 (ix1 b) = p) :
    after hostOps0_4 U main_v109 (ix3 b T i) = k ⟨32 + i.val, by omega⟩ * Ideal.cos (angR (p + BitVec.ofNat 32 T.val) i) + k ⟨i.val, by omega⟩ * Ideal.sin (angR (p + BitVec.ofNat 32 T.val) i) := by
  subst hp
  simp only [← hk]
  unfold angR
  after_reads_at
  rfl

theorem v115_at (b : Fin 2) (T : Fin 8192) (j : Fin 64) (k : Fin 64 → EReal) (p : BitVec 32) (fr : Fin 32 → EReal) (hf : ∀ p i, FloatOps.sitofp (F := Ideal) .f32 p * fr i = angR p i) (hk : ∀ j, U main_v3 (ix3 b T j) = k j) (hp : U main_arg2 (ix1 b) = p) :
    after hostOps0_4 U main_v115 (ix3 b j T) = Spec.rope (p + BitVec.ofNat 32 T.val) fr k j := by
  have h6 := fun i => v106_at U b T i k p hk hp
  have h9 := fun i => v109_at U b T i k p hk hp
  rw [v115_eq]
  generalize after hostOps0_4 U main_v106 = a at h6 ⊢
  generalize after hostOps0_4 U main_v109 = d at h9 ⊢
  unfold Spec.rope
  simp only [hf]
  pointwise
  by_cases h : j.val < 32
  · simp only [dif_pos h]
    exact h6 _
  · simp only [dif_neg h]
    exact h9 _

/-- Byte `b` of the word of exponent `e`. -/
def byteR (e : BitVec 32) (b : BitVec 32) : BitVec 32 := IntOp.andi (IntOp.shrsi ArithUnit.host (IntOp.shli ArithUnit.host (IntOp.addi e 127#32) 23#32) b) 255#32

theorem v114_eq : after hostOps0_4 U main_v114 = transpose S2x64x8192 [0, 2, 1] (trunci 8 (shapeCast S2x8192x64 (concatenate S2x8192x16x4 3 [⟨S2x8192x16x1, (after hostOps0_4 U main_v77 : (⟨S2x8192x16x1, .i32⟩ : BufTy).Contents (Elt Ideal))⟩, ⟨S2x8192x16x1, (after hostOps0_4 U main_v78 : (⟨S2x8192x16x1, .i32⟩ : BufTy).Contents (Elt Ideal))⟩, ⟨S2x8192x16x1, (after hostOps0_4 U main_v79 : (⟨S2x8192x16x1, .i32⟩ : BufTy).Contents (Elt Ideal))⟩, ⟨S2x8192x16x1, (after hostOps0_4 U main_v80 : (⟨S2x8192x16x1, .i32⟩ : BufTy).Contents (Elt Ideal))⟩] concatenates_S2x8192x16x1_S2x8192x16x1_S2x8192x16x1_S2x8192x16x1_S2x8192x16x4_d3) shapeCasts_S2x8192x16x4_S2x8192x64) natLt_8_32) transposes_S2x8192x64_S2x64x8192_0_2_1 := by
  after_reads_simp
  rfl

theorem v77_at (b : Fin 2) (T : Fin 8192) (g : Fin 16) (l : Fin 1) : after hostOps0_4 U main_v77 (ix4 b T g l) = byteR (U main_v42 (ix3 b T g)) 0#32 := by
  unfold byteR
  after_reads_at

theorem v78_at (b : Fin 2) (T : Fin 8192) (g : Fin 16) (l : Fin 1) : after hostOps0_4 U main_v78 (ix4 b T g l) = byteR (U main_v42 (ix3 b T g)) 8#32 := by
  unfold byteR
  after_reads_at

theorem v79_at (b : Fin 2) (T : Fin 8192) (g : Fin 16) (l : Fin 1) : after hostOps0_4 U main_v79 (ix4 b T g l) = byteR (U main_v42 (ix3 b T g)) 16#32 := by
  unfold byteR
  after_reads_at

theorem v80_at (b : Fin 2) (T : Fin 8192) (g : Fin 16) (l : Fin 1) : after hostOps0_4 U main_v80 (ix4 b T g l) = byteR (U main_v42 (ix3 b T g)) 24#32 := by
  unfold byteR
  after_reads_at

theorem v114_at (b : Fin 2) (T : Fin 8192) (j : Fin 64) (e : BitVec 32) (he : U main_v42 (ix3 b T ⟨j.val / 4, by omega⟩) = e) :
    after hostOps0_4 U main_v114 (ix3 b j T) = BitVec.setWidth 8 (byteR e (BitVec.ofNat 32 (8 * (j.val % 4)))) := by
  have h0 := fun g l => v77_at U b T g l
  have h1 := fun g l => v78_at U b T g l
  have h2 := fun g l => v79_at U b T g l
  have h3 := fun g l => v80_at U b T g l
  rw [v114_eq]
  generalize after hostOps0_4 U main_v77 = a0 at h0 ⊢
  generalize after hostOps0_4 U main_v78 = a1 at h1 ⊢
  generalize after hostOps0_4 U main_v79 = a2 at h2 ⊢
  generalize after hostOps0_4 U main_v80 = a3 at h3 ⊢
  pointwise
  simp only [h0, h1, h2, h3, he]
  have hj : j.val % 4 = 0 ∨ j.val % 4 = 1 ∨ j.val % 4 = 2 ∨ j.val % 4 = 3 := by omega
  rcases hj with h | h | h | h <;> simp [h]

end Cert.ReferenceIdeal.Val

end
-- ==== Proof.Math.lean ====
/- The scale found by search in the kernel and by counting in the reference is one power of two. -/
module

public import proofs.«01_k».proof.Proof.Spec

@[expose] public section

noncomputable section

open Idealize.ShloMosaic
namespace Cert.Math

/-- A pattern with no fraction and field `f` is a power of two. -/
theorem ofBits_normal (f : ℕ) (h1 : 1 ≤ f) (h2 : f ≤ 254) :
    Ideal.ofBits .f32 (BitVec.ofNat 32 (f * 8388608)) = (((2 : ℝ) ^ ((f : ℤ) - 127) : ℝ) : EReal) := by
  generalize hw : BitVec.ofNat 32 (f * 8388608) = w
  have hwn : w.toNat = f * 8388608 := by
    rw [← hw, BitVec.toNat_ofNat]; omega
  have hx : (w.extractLsb' 23 8).toNat = f := by
    rw [BitVec.extractLsb'_toNat, Nat.shiftRight_eq_div_pow, hwn]; omega
  have hf : (w.extractLsb' 0 23).toNat = 0 := by
    rw [BitVec.extractLsb'_toNat, Nat.shiftRight_eq_div_pow, hwn]; omega
  have hn : (w.extractLsb' (8 + 23) 1 == 1#1) = false := by
    rw [beq_eq_false_iff_ne, Ne, ← BitVec.toNat_inj, BitVec.extractLsb'_toNat, Nat.shiftRight_eq_div_pow, hwn]
    norm_num
    omega
  show Ideal.ieee 8 23 w = _
  unfold Ideal.ieee
  simp only [hx, hf, hn]
  rw [if_neg (by norm_num; omega), if_neg (by omega)]
  norm_num
  rw [show (8388608 : ℝ) = (2:ℝ) ^ (23 : ℤ) by norm_num, ← EReal.coe_mul, ← zpow_add₀ (by norm_num)]
  congr 2
  ring

theorem ofBits_inf : Ideal.ofBits .f32 0x7F800000#32 = ⊤ := by simp [Ideal.ofBits, Ideal.ieee]

theorem pow_two (e : ℤ) : Ideal.pow (Ideal.ofBits .f32 0x40000000#32) (((e : ℝ)) : EReal) = (((2 : ℝ) ^ e : ℝ) : EReal) := by
  have h : Ideal.ofBits .f32 0x40000000#32 = ((2 : ℝ) : EReal) := by
    have := ofBits_normal 128 (by omega) (by omega)
    norm_num at this
    exact this
  rw [h, Ideal.pow_coe_coe, Real.rpow_eq_pow, Real.rpow_intCast]

/-- Dividing by 2048 is multiplying by its inverse. -/
theorem div_mul (s : EReal) : Ideal.div s (Ideal.ofBits .f32 0x45000000#32) = s * Ideal.ofBits .f32 0x3A000000#32 := by
  have a := ofBits_normal 138 (by omega) (by omega)
  have b := ofBits_normal 116 (by omega) (by omega)
  norm_num at a b
  rw [show (0x45000000#32) = 1157627904#32 from rfl, show (0x3A000000#32) = 973078528#32 from rfl, a, b]
  unfold Ideal.div
  rw [if_neg, ← EReal.coe_inv]
  norm_num
  norm_num

/-- How many of the powers of two from the least scale on are at most `q`: a position among 252. -/
theorem exists_pos (q : EReal) : ∃ k : ℕ, k ≤ 252 ∧ ∀ f : ℕ, 1 ≤ f → f ≤ 252 → ((((2 : ℝ) ^ ((f : ℤ) - 127) : ℝ) : EReal) ≤ q ↔ f ≤ k) := by
  classical
  refine ⟨Nat.findGreatest (fun f => (((2 : ℝ) ^ ((f : ℤ) - 127) : ℝ) : EReal) ≤ q) 252, Nat.findGreatest_le _, fun f h1 h2 => ⟨fun h => Nat.le_findGreatest h2 h, fun h => ?_⟩⟩
  have hp : Nat.findGreatest (fun f => (((2 : ℝ) ^ ((f : ℤ) - 127) : ℝ) : EReal) ≤ q) 252 ≠ 0 := by omega
  have := Nat.findGreatest_of_ne_zero rfl hp
  refine le_trans (EReal.coe_le_coe_iff.2 (zpow_le_zpow_right₀ (by norm_num) ?_)) this
  omega

/-- The pattern of field `f` is at most the capped quotient exactly for the fields up to the position. -/
theorem field_le (q : EReal) (k : ℕ) (hk : k ≤ 252) (h : ∀ f : ℕ, 1 ≤ f → f ≤ 252 → ((((2 : ℝ) ^ ((f : ℤ) - 127) : ℝ) : EReal) ≤ q ↔ f ≤ k))
    (f : ℕ) (h1 : 1 ≤ f) (h2 : f ≤ 255) : Ideal.ofBits .f32 (BitVec.ofNat 32 (f * 8388608)) ≤ min q (Ideal.ofBits .f32 0x7E000000#32) ↔ f ≤ k := by
  have hc : Ideal.ofBits .f32 0x7E000000#32 = (((2 : ℝ) ^ ((252 : ℤ) - 127) : ℝ) : EReal) := ofBits_normal 252 (by omega) (by omega)
  rw [hc, le_min_iff]
  rcases Nat.lt_or_ge f 255 with hf | hf
  · rw [ofBits_normal f h1 (by omega)]
    have hle : ((((2 : ℝ) ^ ((f : ℤ) - 127) : ℝ) : EReal) ≤ (((2 : ℝ) ^ ((252 : ℤ) - 127) : ℝ) : EReal)) ↔ f ≤ 252 := by
      rw [EReal.coe_le_coe_iff, zpow_le_zpow_iff_right₀ (by norm_num)]
      omega
    rw [hle]
    constructor
    · rintro ⟨a, b⟩
      exact (h f h1 b).1 a
    · intro a
      exact ⟨(h f h1 (by omega)).2 a, by omega⟩
  · have e : f = 255 := by omega
    subst e
    have hi : Ideal.ofBits .f32 (BitVec.ofNat 32 (255 * 8388608)) = ⊤ := ofBits_inf
    rw [hi, top_le_iff, top_le_iff]
    constructor
    · rintro ⟨_, b⟩
      exact absurd b (EReal.coe_ne_top _)
    · omega

/-- One step of the search, over the fields. -/
def nstep (k b a : ℕ) : ℕ := if a + b ≤ k then a + b else a

theorem nstep_le (k b a : ℕ) : nstep k b a ≤ a + b := by
  unfold nstep; split_ifs <;> omega

theorem step_eq (cap : EReal) (k : ℕ) (h : ∀ f : ℕ, 1 ≤ f → f ≤ 255 → (Ideal.ofBits .f32 (BitVec.ofNat 32 (f * 8388608)) ≤ cap ↔ f ≤ k))
    (b a : ℕ) (hb : 1 ≤ b) (hab : a + b ≤ 255) : Spec.step cap (BitVec.ofNat 32 (b * 8388608)) (BitVec.ofNat 32 (a * 8388608)) = BitVec.ofNat 32 (nstep k b a * 8388608) := by
  unfold Spec.step nstep
  rw [← BitVec.ofNat_add, ← Nat.add_mul]
  simp only [h (a + b) (by omega) hab]
  split_ifs <;> rfl

theorem search_eq (cap : EReal) (k : ℕ) (hk : k ≤ 252) (h : ∀ f : ℕ, 1 ≤ f → f ≤ 255 → (Ideal.ofBits .f32 (BitVec.ofNat 32 (f * 8388608)) ≤ cap ↔ f ≤ k)) :
    Spec.step cap 8388608#32 (Spec.step cap 16777216#32 (Spec.step cap 33554432#32 (Spec.step cap 67108864#32 (Spec.step cap 134217728#32 (Spec.step cap 268435456#32 (Spec.step cap 536870912#32 (Spec.step cap 1073741824#32 (0#32)))))))) = BitVec.ofNat 32 (k * 8388608) := by
  have s := step_eq cap k h
  have n1 := nstep_le k 128 0
  have n2 := nstep_le k 64 (nstep k 128 0)
  have n3 := nstep_le k 32 (nstep k 64 (nstep k 128 0))
  have n4 := nstep_le k 16 (nstep k 32 (nstep k 64 (nstep k 128 0)))
  have n5 := nstep_le k 8 (nstep k 16 (nstep k 32 (nstep k 64 (nstep k 128 0))))
  have n6 := nstep_le k 4 (nstep k 8 (nstep k 16 (nstep k 32 (nstep k 64 (nstep k 128 0)))))
  have n7 := nstep_le k 2 (nstep k 4 (nstep k 8 (nstep k 16 (nstep k 32 (nstep k 64 (nstep k 128 0))))))
  have e1 : Spec.step cap 1073741824#32 (0#32) = _ := s 128 0 (by omega) (by omega)
  have e2 := s 64 (nstep k 128 0) (by omega) (by omega)
  have e3 := s 32 (nstep k 64 (nstep k 128 0)) (by omega) (by omega)
  have e4 := s 16 (nstep k 32 (nstep k 64 (nstep k 128 0))) (by omega) (by omega)
  have e5 := s 8 (nstep k 16 (nstep k 32 (nstep k 64 (nstep k 128 0)))) (by omega) (by omega)
  have e6 := s 4 (nstep k 8 (nstep k 16 (nstep k 32 (nstep k 64 (nstep k 128 0))))) (by omega) (by omega)
  have e7 := s 2 (nstep k 4 (nstep k 8 (nstep k 16 (nstep k 32 (nstep k 64 (nstep k 128 0)))))) (by omega) (by omega)
  have e8 := s 1 (nstep k 2 (nstep k 4 (nstep k 8 (nstep k 16 (nstep k 32 (nstep k 64 (nstep k 128 0))))))) (by omega) (by omega)
  norm_num only at e2 e3 e4 e5 e6 e7 e8
  rw [e1, e2, e3, e4, e5, e6, e7, e8]
  clear e1 e2 e3 e4 e5 e6 e7 e8 n1 n2 n3 n4 n5 n6 n7 s h
  congr 2
  revert k
  have key : ∀ k : Fin 253, nstep k.val 1 (nstep k.val 2 (nstep k.val 4 (nstep k.val 8 (nstep k.val 16 (nstep k.val 32 (nstep k.val 64 (nstep k.val 128 0))))))) = k.val := by decide
  intro k hk
  exact key ⟨k, by omega⟩

/-- How many of the 252 powers of two are at most `q`, as a word. -/
def cnt (q : EReal) : BitVec 32 := Finset.fold IntOp.addi (0#32) (fun x : Fin 252 => BitVec.setWidth 32 (BitVec.ofBool (decide (Ideal.pow (Ideal.ofBits FTy.f32 1073741824#32) (FloatOps.sitofp (F := Ideal) FTy.f32 (IntOp.addi (4294967170#32) (BitVec.ofNat 32 x.val))) ≤ q)))) Finset.univ

theorem fold_count {n : ℕ} (p : Fin n → Prop) (inst : ∀ x, Decidable (p x)) (s : Finset (Fin n)) :
    Finset.fold IntOp.addi (0#32) (fun x => BitVec.setWidth 32 (BitVec.ofBool (decide (p x)))) s = BitVec.ofNat 32 (s.filter p).card := by
  classical
  induction s using Finset.induction_on with
  | empty => rfl
  | insert a s ha ih =>
    rw [Finset.fold_insert ha, ih, Finset.filter_insert]
    by_cases h : p a
    · rw [if_pos h, Finset.card_insert_of_notMem (by simp [ha]), Nat.add_comm, BitVec.ofNat_add]
      simp [h, IntOp.addi]
    · rw [if_neg h]
      simp [h, IntOp.addi]

theorem card_lt (k : ℕ) (hk : k ≤ 252) : (Finset.univ.filter fun x : Fin 252 => x.val + 1 ≤ k).card = k := by
  show (Finset.univ.filter fun x : Fin 252 => x.val < k).card = k
  rw [Fin.card_filter_val_lt]
  omega

theorem toInt_exp (x : ℕ) (h : x < 252) : (IntOp.addi (4294967170#32) (BitVec.ofNat 32 x)).toInt = (x : ℤ) - 126 := by
  unfold IntOp.addi
  rw [BitVec.toInt_eq_toNat_cond, BitVec.toNat_add, BitVec.toNat_ofNat, BitVec.toNat_ofNat]
  split_ifs <;> omega

theorem cnt_eq (q : EReal) (k : ℕ) (hk : k ≤ 252) (h : ∀ f : ℕ, 1 ≤ f → f ≤ 252 → ((((2 : ℝ) ^ ((f : ℤ) - 127) : ℝ) : EReal) ≤ q ↔ f ≤ k)) :
    cnt q = BitVec.ofNat 32 k := by
  unfold cnt
  rw [fold_count, ← card_lt k hk]
  congr 2
  ext x
  simp only [Finset.mem_filter, Finset.mem_univ, true_and]
  rw [← h (x.val + 1) (by omega) (by omega)]
  have e : FloatOps.sitofp (F := Ideal) FTy.f32 (IntOp.addi (4294967170#32) (BitVec.ofNat 32 x.val)) = ((((x.val : ℤ) - 126 : ℤ) : ℝ) : EReal) := by
    rw [← toInt_exp x.val x.isLt]; rfl
  have p := pow_two ((x.val : ℤ) - 126)
  rw [e, show (1073741824#32) = 0x40000000#32 from rfl, p]
  have e' : (((x.val + 1 : ℕ) : ℤ) - 127) = (x.val : ℤ) - 126 := by push_cast; ring
  rw [e']

/-- The exponent of the scale: none where the quotient is below every power or infinite. -/
def ex (q : EReal) : BitVec 32 := if cnt q = 0#32 ∨ q = Ideal.ofBits .f32 0x7F800000#32 then 0#32 else cnt q - 126#32

/-- The scale's field, its inverse's field and the exponent fit together. -/
theorem field (q : EReal) : ∃ f : ℕ, 1 ≤ f ∧ f ≤ 253 ∧ Spec.word q = BitVec.ofNat 32 (f * 8388608) ∧ Spec.iword q = BitVec.ofNat 32 ((254 - f) * 8388608) ∧ (ex q).toInt = (f : ℤ) - 127 ∧ (-ex q).toInt = 127 - (f : ℤ) ∧ ex q + 127#32 = BitVec.ofNat 32 f := by
  obtain ⟨k, hk, h⟩ := exists_pos q
  have hn := cnt_eq q k hk h
  have he : q ≠ Ideal.ofBits .f32 0x7F800000#32 → Spec.expo q = BitVec.ofNat 32 (k * 8388608) := fun hq => by
    unfold Spec.expo
    rw [if_neg hq]
    exact search_eq _ k hk (field_le q k hk h)
  by_cases hq : q = Ideal.ofBits .f32 0x7F800000#32
  · have hx : ex q = 0#32 := if_pos (Or.inr hq)
    have hp : Spec.plain (Spec.expo q) := Or.inr (by unfold Spec.expo; rw [if_pos hq])
    refine ⟨127, by omega, by omega, ?_, ?_, ?_, ?_, ?_⟩
    · unfold Spec.word; rw [if_pos hp]
    · unfold Spec.iword; rw [if_pos hp]
    all_goals rw [hx]; rfl
  · by_cases h0 : k = 0
    · subst h0
      have hx : ex q = 0#32 := if_pos (Or.inl (by rw [hn]))
      have hp : Spec.plain (Spec.expo q) := Or.inl (by rw [he hq])
      refine ⟨127, by omega, by omega, ?_, ?_, ?_, ?_, ?_⟩
      · unfold Spec.word; rw [if_pos hp]
      · unfold Spec.iword; rw [if_pos hp]
      all_goals rw [hx]; rfl
    · have hnz : BitVec.ofNat 32 k ≠ 0#32 := fun e => by
        have := congrArg BitVec.toNat e
        rw [BitVec.toNat_ofNat, BitVec.toNat_ofNat] at this
        omega
      have hx : ex q = BitVec.ofNat 32 k - 126#32 := by
        unfold ex
        rw [hn, if_neg]
        rintro (e | e)
        · exact hnz e
        · exact hq e
      have hp : ¬ Spec.plain (Spec.expo q) := by
        rw [he hq]
        rintro (e | e)
        · have := congrArg BitVec.toNat e
          rw [BitVec.toNat_ofNat, BitVec.toNat_ofNat] at this
          omega
        · have := congrArg BitVec.toNat e
          rw [BitVec.toNat_ofNat, BitVec.toNat_ofNat] at this
          omega
      refine ⟨k + 1, by omega, by omega, ?_, ?_, ?_, ?_, ?_⟩
      · unfold Spec.word
        rw [if_neg hp, he hq, show (8388608#32) = BitVec.ofNat 32 8388608 from rfl, ← BitVec.ofNat_add, ← Nat.succ_mul]
      · unfold Spec.iword
        rw [if_neg hp, he hq]
        apply BitVec.eq_of_toNat_eq
        rw [BitVec.toNat_sub, BitVec.toNat_ofNat, BitVec.toNat_ofNat, BitVec.toNat_ofNat]
        omega
      · rw [hx, BitVec.toInt_eq_toNat_cond, BitVec.toNat_sub, BitVec.toNat_ofNat, BitVec.toNat_ofNat]
        split_ifs <;> omega
      · rw [hx, BitVec.toInt_eq_toNat_cond, BitVec.toNat_neg, BitVec.toNat_sub, BitVec.toNat_ofNat, BitVec.toNat_ofNat]
        split_ifs <;> omega
      · rw [hx]
        apply BitVec.eq_of_toNat_eq
        rw [BitVec.toNat_add, BitVec.toNat_sub, BitVec.toNat_ofNat, BitVec.toNat_ofNat, BitVec.toNat_ofNat, BitVec.toNat_ofNat]
        omega

/-- Two to the exponent is the scale. -/
theorem pow_ex (q : EReal) : Ideal.pow (Ideal.ofBits .f32 0x40000000#32) (FloatOps.sitofp (F := Ideal) .f32 (ex q)) = Ideal.ofBits .f32 (Spec.word q) := by
  obtain ⟨f, h1, h2, hw, _, hi, _, _⟩ := field q
  have e : FloatOps.sitofp (F := Ideal) FTy.f32 (ex q) = ((((f : ℤ) - 127 : ℤ) : ℝ) : EReal) := by
    rw [← hi]; rfl
  rw [e, pow_two, hw, ofBits_normal f h1 (by omega)]

/-- Two to the opposite exponent is the scale's inverse. -/
theorem pow_neg_ex (q : EReal) : Ideal.pow (Ideal.ofBits .f32 0x40000000#32) (FloatOps.sitofp (F := Ideal) .f32 (-ex q)) = Ideal.ofBits .f32 (Spec.iword q) := by
  obtain ⟨f, h1, h2, _, hw, _, hi, _⟩ := field q
  have e : FloatOps.sitofp (F := Ideal) FTy.f32 (-ex q) = (((127 - (f : ℤ) : ℤ) : ℝ) : EReal) := by
    rw [← hi]; rfl
  rw [e, pow_two, hw, ofBits_normal (254 - f) (by omega) (by omega)]
  have e2 : (((254 - f : ℕ) : ℤ) - 127) = 127 - (f : ℤ) := by omega
  rw [e2]

/-- The exponent, biased and in place, is the scale's word. -/
theorem shl_ex (q : EReal) : IntOp.shli ArithUnit.host (IntOp.addi (ex q) 127#32) 23#32 = Spec.word q := by
  obtain ⟨f, h1, h2, hw, _, _, _, hi⟩ := field q
  have e : IntOp.addi (ex q) 127#32 = BitVec.ofNat 32 f := hi
  rw [e, hw]
  have : IntOp.shli ArithUnit.host (BitVec.ofNat 32 f) 23#32 = BitVec.ofNat 32 f <<< 23 := by
    simp [IntOp.shli]
  rw [this]
  apply BitVec.eq_of_toNat_eq
  rw [BitVec.toNat_shiftLeft, BitVec.toNat_ofNat, BitVec.toNat_ofNat, Nat.shiftLeft_eq]
  omega

theorem ones (i : Fin 8) : (255#8)[i.val] = true := by
  revert i; decide

/-- A word shifted down and masked is its byte. -/
theorem byte_eq (w : BitVec 32) (b : ℕ) (hb : b < 4) :
    BitVec.setWidth 8 (IntOp.andi (IntOp.shrsi ArithUnit.host w (BitVec.ofNat 32 (8 * b))) 255#32) = Spec.byte w b := by
  unfold Spec.byte
  have hs : IntOp.shrsi ArithUnit.host w (BitVec.ofNat 32 (8 * b)) = w.sshiftRight (8 * b) := by
    have : b = 0 ∨ b = 1 ∨ b = 2 ∨ b = 3 := by omega
    rcases this with rfl | rfl | rfl | rfl <;> simp [IntOp.shrsi]
  rw [hs]
  unfold IntOp.andi
  ext i hi
  have h255 : (255#8)[i] = true := ones ⟨i, hi⟩
  simp [BitVec.getElem_setWidth, BitVec.getLsbD_and, BitVec.getLsbD_sshiftRight, BitVec.getElem_extractLsb']
  rw [if_pos (by omega), h255]
  have h32 : ¬ 32 ≤ i := by omega
  simp [h32]

end Cert.Math

end
-- ==== Proof.RefRun.lean ====
/- The reference's whole run: its five results in the closed forms of the kernel's. -/
module

public import proofs.«01_k».proof.Proof.RefRead
public import proofs.«01_k».proof.Proof.Math
public import Idealize.ShloMosaic.Lib.Pipeline.Covers

@[expose] public section

set_option maxRecDepth 16384
noncomputable section

namespace Cert.ReferenceIdeal.Val

open Idealize.ShloMosaic.StableHlo (after)
open Cert.ReferenceIdeal Cert.ReferenceIdeal.Gen
open Idealize.ShloMosaic Idealize.ShloMosaic.TcCoe Idealize.SL.Sem

variable (m : (ℓ : Loc nD τ sig) → Buf (Elt Ideal) ℓ) (c : Dev nD)

/-- A token's row, -/
def Rw (b : Fin 2) (T : Fin 8192) (ch : Fin 2048) : EReal := m (c.tc.loc main_arg0) (ix3 b T ⟨ch.val, by omega⟩)
/-- its rotary key, -/
def Kw (b : Fin 2) (T : Fin 8192) (i : Fin 64) : EReal := m (c.tc.loc main_arg0) (ix3 b T ⟨2048 + i.val, by omega⟩)
/-- the norm's weights, -/
def Gw (ch : Fin 2048) : EReal := m (c.tc.loc main_arg1) (ix1 ch)
/-- and a batch's first position. -/
def Pw (b : Fin 2) : BitVec 32 := m (c.tc.loc main_arg2) (ix1 b)

/-- The rotary frequencies. -/
def freqR (i : Fin 32) : EReal :=
  Ideal.pow (Ideal.ofBits FTy.f32 0x461C4000#32) (Ideal.ofBits FTy.f32 0xBD000000#32 * FloatOps.sitofp (F := Ideal) FTy.f32 (BitVec.ofNat 32 i.val))

theorem rinvR_eq (x : Fin 2048 → EReal) : rinvR x = Spec.rinv x := by
  unfold rinvR Spec.rinv
  rw [Math.div_mul]

/-- The quotient of a token's group. -/
abbrev Qw (b : Fin 2) (T : Fin 8192) (g : Fin 16) : EReal := Spec.q (Rw m c b T) (Gw m c) g

/-- The buffers at launch, -/
abbrev U0 : Valuation τ sig (Elt Ideal) := fun b => m (c, b)
/-- once the quotients are there, -/
abbrev U1 : Valuation τ sig (Elt Ideal) := after hA (U0 m c)
/-- once the powers are counted, -/
abbrev U2 : Valuation τ sig (Elt Ideal) := after hB (U1 m c)
/-- once the exponents are there, -/
abbrev U3 : Valuation τ sig (Elt Ideal) := after hostOps0_1 (after hC (U2 m c))
/-- and once the scaled values are. -/
abbrev U4 : Valuation τ sig (Elt Ideal) := after hostOps0_3 (after hostOps0_2 (U3 m c))

theorem V_eq (b : Ref sig .tc) : V m c b = after hostOps0_4 (U4 m c) b := V_split m c b

theorem u1_v17 (b : Fin 2) (T : Fin 8192) (g : Fin 16) (l : Fin 128) :
    U1 m c main_v17 (ix4 b T g l) = Spec.norm (Rw m c b T) (Gw m c) (Spec.chan g l) := by
  refine (v17_at (U0 m c) b T g l (Rw m c b T) (Gw m c) (fun _ _ => rfl) (fun _ => rfl)).trans ?_
  unfold Spec.norm
  rw [rinvR_eq]

theorem u1_v21 (b : Fin 2) (T : Fin 8192) (g : Fin 16) : U1 m c main_v21 (ix3 b T g) = Qw m c b T g :=
  (v21_at (U0 m c) b T g).trans (congrArg Spec.quot (funext fun l => u1_v17 m c b T g l))

theorem u2_v34 (b : Fin 2) (T : Fin 8192) (g : Fin 16) : U2 m c main_v34 (ix3 b T g) = Math.cnt (Qw m c b T g) :=
  v34_at (U1 m c) b T g (Qw m c b T g) (u1_v21 m c b T g)

theorem u2_v21 (b : Fin 2) (T : Fin 8192) (g : Fin 16) : U2 m c main_v21 (ix3 b T g) = Qw m c b T g :=
  (congrFun (pass_Bv21 (U1 m c)) _).trans (u1_v21 m c b T g)

theorem u3_v42 (b : Fin 2) (T : Fin 8192) (g : Fin 16) : U3 m c main_v42 (ix3 b T g) = Math.ex (Qw m c b T g) :=
  v42_at (U2 m c) b T g (Math.cnt (Qw m c b T g)) (Qw m c b T g) (u2_v34 m c b T g) (u2_v21 m c b T g)

theorem u3_v17 (b : Fin 2) (T : Fin 8192) (g : Fin 16) (l : Fin 128) :
    U3 m c main_v17 (ix4 b T g l) = Spec.norm (Rw m c b T) (Gw m c) (Spec.chan g l) :=
  (congrFun (pass_Cv17 (U2 m c)) _).trans ((congrFun (pass_Bv17 (U1 m c)) _).trans (u1_v17 m c b T g l))

theorem u4_v3 (b : Fin 2) (T : Fin 8192) (i : Fin 64) : U4 m c main_v3 (ix3 b T i) = Kw m c b T i :=
  (congrFun (pass_v3 (U3 m c)) _).trans ((congrFun (pass_Cv3 (U2 m c)) _).trans ((congrFun (pass_Bv3 (U1 m c)) _).trans (v3_at (U0 m c) b T i)))

theorem u4_arg2 (b : Fin 2) : U4 m c main_arg2 (ix1 b) = Pw m c b :=
  (congrFun (pass_arg2 (U3 m c)) _).trans ((congrFun (pass_Carg2 (U2 m c)) _).trans ((congrFun (pass_Barg2 (U1 m c)) _).trans (congrFun (pass_Aarg2 (U0 m c)) _)))

theorem u4_v42 (b : Fin 2) (T : Fin 8192) (g : Fin 16) : U4 m c main_v42 (ix3 b T g) = Math.ex (Qw m c b T g) :=
  (congrFun (pass_v42 (U3 m c)) _).trans (u3_v42 m c b T g)

theorem u4_v45 (b : Fin 2) (T : Fin 8192) (g : Fin 16) : U4 m c main_v45 (ix3 b T g) = Ideal.ofBits .f32 (Spec.word (Qw m c b T g)) :=
  (v45_at (U3 m c) b T g).trans ((congrArg (fun e : BitVec 32 => Ideal.pow (Ideal.ofBits .f32 0x40000000#32) (FloatOps.sitofp (F := Ideal) .f32 e)) (u3_v42 m c b T g)).trans (Math.pow_ex _))

theorem u4_v55 (b : Fin 2) (T : Fin 8192) (ch : Fin 2048) :
    U4 m c main_v55 (ix4 b T (Spec.grp ch) ⟨ch.val % 128, by omega⟩) = Spec.code (Qw m c b T (Spec.grp ch)) (Spec.norm (Rw m c b T) (Gw m c) ch) := by
  have hc : Spec.chan (Spec.grp ch) ⟨ch.val % 128, by omega⟩ = ch := Fin.ext (by show 128 * (ch.val / 128) + ch.val % 128 = ch.val; omega)
  refine (v55_at (U3 m c) b T (Spec.grp ch) ⟨ch.val % 128, by omega⟩ _ _ (u3_v17 m c b T _ _) (u3_v42 m c b T _)).trans ?_
  rw [hc, Math.pow_neg_ex]
  rfl

theorem V_v56 (b : Fin 2) (T : Fin 8192) (ch : Fin 2048) : V m c main_v56 (ix3 b T ch) = Spec.code (Qw m c b T (Spec.grp ch)) (Spec.norm (Rw m c b T) (Gw m c) ch) :=
  (congrFun (V_eq m c main_v56) _).trans ((v56_at (U4 m c) b T ch).trans (u4_v55 m c b T ch))

theorem V_v112 (b : Fin 2) (ch : Fin 2048) (T : Fin 8192) : V m c main_v112 (ix3 b ch T) = Spec.code (Qw m c b T (Spec.grp ch)) (Spec.norm (Rw m c b T) (Gw m c) ch) :=
  (congrFun (V_eq m c main_v112) _).trans ((v112_at (U4 m c) b T ch).trans (u4_v55 m c b T ch))

theorem V_v116 (b : Fin 2) (g : Fin 16) (T : Fin 8192) : V m c main_v116 (ix3 b g T) = Ideal.ofBits .f32 (Spec.word (Qw m c b T g)) :=
  (congrFun (V_eq m c main_v116) _).trans ((v116_at (U4 m c) b T g).trans (u4_v45 m c b T g))

theorem V_v115 (b : Fin 2) (j : Fin 64) (T : Fin 8192) : V m c main_v115 (ix3 b j T) = Spec.rope (Pw m c b + BitVec.ofNat 32 T.val) freqR (Kw m c b T) j :=
  (congrFun (V_eq m c main_v115) _).trans (v115_at (U4 m c) b T j (Kw m c b T) (Pw m c b) freqR (fun _ _ => rfl) (fun i => u4_v3 m c b T i) (u4_arg2 m c b))

theorem V_v114 (b : Fin 2) (j : Fin 64) (T : Fin 8192) :
    V m c main_v114 (ix3 b j T) = Spec.byte (Spec.word (Qw m c b T ⟨j.val / 4, by omega⟩)) (j.val % 4) := by
  refine (congrFun (V_eq m c main_v114) _).trans ((v114_at (U4 m c) b T j _ (u4_v42 m c b T _)).trans ?_)
  unfold byteR
  rw [Math.shl_ex]
  exact Math.byte_eq _ _ (by omega)

/-- The codes with the channels first, -/
def A3 : Vec Ideal S2x2048x8192 .fp8e4m3 := fun i => Spec.code (Spec.q (Rw m c (i 0) (i 2)) (Gw m c) (Spec.grp (i 1))) (Spec.norm (Rw m c (i 0) (i 2)) (Gw m c) (i 1))

/-- the scales' bytes, -/
def A4 : Vec Ideal S2x64x8192 .i8 := fun i => Spec.byte (Spec.word (Spec.q (Rw m c (i 0) (i 2)) (Gw m c) ⟨(i 1).val / 4, by have : (i 1).val < 64 := (i 1).isLt; omega⟩)) ((i 1).val % 4)

/-- the rotated keys, -/
def A5 : Vec Ideal S2x64x8192 .bf16 := fun i => Spec.rope (Pw m c (i 0) + BitVec.ofNat 32 (i 2).val) freqR (Kw m c (i 0) (i 2)) (i 1)

/-- the codes, tokens first, -/
def A6 : Vec Ideal S2x8192x2048 .fp8e4m3 := fun i => Spec.code (Spec.q (Rw m c (i 0) (i 1)) (Gw m c) (Spec.grp (i 2))) (Spec.norm (Rw m c (i 0) (i 1)) (Gw m c) (i 2))

/-- and the scales. -/
def A7 : Vec Ideal S2x16x8192 .f32 := fun i => Ideal.ofBits .f32 (Spec.word (Spec.q (Rw m c (i 0) (i 2)) (Gw m c) (i 1)))

theorem ext3 {a b c : ℕ} {u v : (⟨3, ![a, b, c]⟩ : Shape).Idx} (h0 : (u 0).val = (v 0).val) (h1 : (u 1).val = (v 1).val) (h2 : (u 2).val = (v 2).val) : u = v := by
  funext i
  match i with
  | ⟨0, _⟩ => exact Fin.ext h0
  | ⟨1, _⟩ => exact Fin.ext h1
  | ⟨2, _⟩ => exact Fin.ext h2

theorem res_4 : V m c main_v114 = A4 m c := by
  funext i
  have e : (i : S2x64x8192.Idx) = ix3 (i 0) (i 1) (i 2) := ext3 rfl rfl rfl
  refine (congrArg (V m c main_v114) e).trans ((V_v114 m c (i 0) (i 1) (i 2)).trans ?_)
  rfl

theorem res_5 : V m c main_v115 = A5 m c := by
  funext i
  have e : (i : S2x64x8192.Idx) = ix3 (i 0) (i 1) (i 2) := ext3 rfl rfl rfl
  refine (congrArg (V m c main_v115) e).trans ((V_v115 m c (i 0) (i 1) (i 2)).trans ?_)
  rfl

theorem res_7 : V m c main_v116 = A7 m c := by
  funext i
  have e : (i : S2x16x8192.Idx) = ix3 (i 0) (i 1) (i 2) := ext3 rfl rfl rfl
  refine (congrArg (V m c main_v116) e).trans ((V_v116 m c (i 0) (i 1) (i 2)).trans ?_)
  rfl

theorem hz3 : (![0, 0, 0] : Fin 3 → Nat) = fun _ => 0 := by
  funext i
  match i with
  | ⟨0, _⟩ => rfl
  | ⟨1, _⟩ => rfl
  | ⟨2, _⟩ => rfl

theorem out2_at (x0 : Vec Ideal S2x8192x2048 .f32) (x1 : Vec Ideal S2x2048x8192 .f32) (i : S2x8192x2048.Idx) : out0_2 x0 x1 i = x0 i := by
  unfold out0_2 r0_0
  rw [View.canon_unit_zero hz3, View.ld_unit_zero hz3]
  unfold k0_pay1
  pointwise

theorem out3_at (x0 : Vec Ideal S2x8192x2048 .f32) (x1 : Vec Ideal S2x2048x8192 .f32) (i : S2x2048x8192.Idx) : out0_3 x0 x1 i = x1 i := by
  unfold out0_3 r0_1
  rw [View.canon_unit_zero hz3, View.ld_unit_zero hz3]
  unfold k0_pay2
  pointwise

theorem emb0 (t : Fin cfg0.N) (i : Fin 2) (j : Fin 8192) (k : Fin 2048) : ((cfg0.win 0).blk t).view.emb (ix3 i j k) = (ix3 i j k : S2x8192x2048.Idx) := by
  refine ext3 ?_ ?_ ?_
  · refine (Pipeline.Window.rect_emb_val (cfg0.win 0) t (ix3 i j k) (0 : Fin 3)).trans ?_
    show 0 * 2 + i.val = i.val; omega
  · refine (Pipeline.Window.rect_emb_val (cfg0.win 0) t (ix3 i j k) (1 : Fin 3)).trans ?_
    show 0 * 8192 + j.val = j.val; omega
  · refine (Pipeline.Window.rect_emb_val (cfg0.win 0) t (ix3 i j k) (2 : Fin 3)).trans ?_
    show 0 * 2048 + k.val = k.val; omega

theorem emb1 (t : Fin cfg0.N) (i : Fin 2) (j : Fin 2048) (k : Fin 8192) : ((cfg0.win 1).blk t).view.emb (ix3 i j k) = (ix3 i j k : S2x2048x8192.Idx) := by
  refine ext3 ?_ ?_ ?_
  · refine (Pipeline.Window.rect_emb_val (cfg0.win 1) t (ix3 i j k) (0 : Fin 3)).trans ?_
    show 0 * 2 + i.val = i.val; omega
  · refine (Pipeline.Window.rect_emb_val (cfg0.win 1) t (ix3 i j k) (1 : Fin 3)).trans ?_
    show 0 * 2048 + j.val = j.val; omega
  · refine (Pipeline.Window.rect_emb_val (cfg0.win 1) t (ix3 i j k) (2 : Fin 3)).trans ?_
    show 0 * 8192 + k.val = k.val; omega

theorem emb2 (t : Fin cfg0.N) (i : Fin 2) (j : Fin 8192) (k : Fin 2048) : ((cfg0.win 2).blk t).view.emb (ix3 i j k) = (ix3 i j k : S2x8192x2048.Idx) := by
  refine ext3 ?_ ?_ ?_
  · refine (Pipeline.Window.rect_emb_val (cfg0.win 2) t (ix3 i j k) (0 : Fin 3)).trans ?_
    show 0 * 2 + i.val = i.val; omega
  · refine (Pipeline.Window.rect_emb_val (cfg0.win 2) t (ix3 i j k) (1 : Fin 3)).trans ?_
    show 0 * 8192 + j.val = j.val; omega
  · refine (Pipeline.Window.rect_emb_val (cfg0.win 2) t (ix3 i j k) (2 : Fin 3)).trans ?_
    show 0 * 2048 + k.val = k.val; omega

theorem emb3 (t : Fin cfg0.N) (i : Fin 2) (j : Fin 2048) (k : Fin 8192) : ((cfg0.win 3).blk t).view.emb (ix3 i j k) = (ix3 i j k : S2x2048x8192.Idx) := by
  refine ext3 ?_ ?_ ?_
  · refine (Pipeline.Window.rect_emb_val (cfg0.win 3) t (ix3 i j k) (0 : Fin 3)).trans ?_
    show 0 * 2 + i.val = i.val; omega
  · refine (Pipeline.Window.rect_emb_val (cfg0.win 3) t (ix3 i j k) (1 : Fin 3)).trans ?_
    show 0 * 2048 + j.val = j.val; omega
  · refine (Pipeline.Window.rect_emb_val (cfg0.win 3) t (ix3 i j k) (2 : Fin 3)).trans ?_
    show 0 * 8192 + k.val = k.val; omega

theorem iblk0 (t : Fin cfg0.N) (i : Fin 2) (j : Fin 8192) (k : Fin 2048) : iblk m c 0 t (ix3 i j k) = V m c main_v56 (ix3 i j k) :=
  congrArg (V m c main_v56) (emb0 t i j k)

theorem iblk1 (t : Fin cfg0.N) (i : Fin 2) (j : Fin 2048) (k : Fin 8192) : iblk m c 1 t (ix3 i j k) = V m c main_v112 (ix3 i j k) :=
  congrArg (V m c main_v112) (emb1 t i j k)

theorem covers2 : (cfg0.win 2).Covers := by
  refine (cfg0.win 2).covers_of_indexMap_surj rfl (fun a => ?_) fun β => ?_
  · revert a; exact (by decide : ∀ a : Fin 3, 0 < S2x8192x2048.size a)
  · have h0 : (β (0 : Fin 3)).val < 1 := lt_of_lt_of_eq (β (0 : Fin 3)).isLt (by show (S2x8192x2048.size (0 : Fin 3) + S2x8192x2048.size (0 : Fin 3) - 1) / S2x8192x2048.size (0 : Fin 3) = 1; rfl)
    have h1 : (β (1 : Fin 3)).val < 1 := lt_of_lt_of_eq (β (1 : Fin 3)).isLt (by show (S2x8192x2048.size (1 : Fin 3) + S2x8192x2048.size (1 : Fin 3) - 1) / S2x8192x2048.size (1 : Fin 3) = 1; rfl)
    have h2 : (β (2 : Fin 3)).val < 1 := lt_of_lt_of_eq (β (2 : Fin 3)).isLt (by show (S2x8192x2048.size (2 : Fin 3) + S2x8192x2048.size (2 : Fin 3) - 1) / S2x8192x2048.size (2 : Fin 3) = 1; rfl)
    refine ⟨fun a => a.elim0, fun a => ?_⟩
    match a with
    | ⟨0, _⟩ => exact (Nat.lt_one_iff.mp h0).symm
    | ⟨1, _⟩ => exact (Nat.lt_one_iff.mp h1).symm
    | ⟨2, _⟩ => exact (Nat.lt_one_iff.mp h2).symm

theorem covers3 : (cfg0.win 3).Covers := by
  refine (cfg0.win 3).covers_of_indexMap_surj rfl (fun a => ?_) fun β => ?_
  · revert a; exact (by decide : ∀ a : Fin 3, 0 < S2x2048x8192.size a)
  · have h0 : (β (0 : Fin 3)).val < 1 := lt_of_lt_of_eq (β (0 : Fin 3)).isLt (by show (S2x2048x8192.size (0 : Fin 3) + S2x2048x8192.size (0 : Fin 3) - 1) / S2x2048x8192.size (0 : Fin 3) = 1; rfl)
    have h1 : (β (1 : Fin 3)).val < 1 := lt_of_lt_of_eq (β (1 : Fin 3)).isLt (by show (S2x2048x8192.size (1 : Fin 3) + S2x2048x8192.size (1 : Fin 3) - 1) / S2x2048x8192.size (1 : Fin 3) = 1; rfl)
    have h2 : (β (2 : Fin 3)).val < 1 := lt_of_lt_of_eq (β (2 : Fin 3)).isLt (by show (S2x2048x8192.size (2 : Fin 3) + S2x2048x8192.size (2 : Fin 3) - 1) / S2x2048x8192.size (2 : Fin 3) = 1; rfl)
    refine ⟨fun a => a.elim0, fun a => ?_⟩
    match a with
    | ⟨0, _⟩ => exact (Nat.lt_one_iff.mp h0).symm
    | ⟨1, _⟩ => exact (Nat.lt_one_iff.mp h1).symm
    | ⟨2, _⟩ => exact (Nat.lt_one_iff.mp h2).symm

theorem final_2 : (dats m 0 c).arrAt 2 cfg0.N = A6 m c := by
  refine (dats m 0 c).arrAt_eq_of_covers 2 _ covers2 fun t hf y => ?_
  blk_simp
  rw [after0_2]
  have ey : (y : S2x8192x2048.Idx) = ix3 (y (0 : Fin 3)) (y (1 : Fin 3)) (y (2 : Fin 3)) := ext3 rfl rfl rfl
  have e := (congrArg ((cfg0.win 2).blk t).view.emb ey).trans (emb2 t (y (0 : Fin 3)) (y (1 : Fin 3)) (y (2 : Fin 3)))
  refine Eq.trans ?_ (congrArg (A6 m c) e).symm
  refine (out2_at _ _ _).trans ?_
  refine (congrArg (iblk m c 0 t) ey).trans ((iblk0 m c t _ _ _).trans ((V_v56 m c _ _ _).trans ?_))
  rfl

theorem final_3 : (dats m 0 c).arrAt 3 cfg0.N = A3 m c := by
  refine (dats m 0 c).arrAt_eq_of_covers 3 _ covers3 fun t hf y => ?_
  blk_simp
  rw [after0_3]
  have ey : (y : S2x2048x8192.Idx) = ix3 (y (0 : Fin 3)) (y (1 : Fin 3)) (y (2 : Fin 3)) := ext3 rfl rfl rfl
  have e := (congrArg ((cfg0.win 3).blk t).view.emb ey).trans (emb3 t (y (0 : Fin 3)) (y (1 : Fin 3)) (y (2 : Fin 3)))
  refine Eq.trans ?_ (congrArg (A3 m c) e).symm
  refine (out3_at _ _ _).trans ?_
  refine (congrArg (iblk m c 1 t) ey).trans ((iblk1 m c t _ _ _).trans ((V_v112 m c _ _ _).trans ?_))
  rfl

/-- The reference's run: its five results, the arguments unchanged. -/
theorem run (ρ : Dev nD → PrngReg) : θ_run defs (onTc (τ := τ) (main (F := Ideal))) ⟨m, fun _ => 0, ρ⟩ fun r => ∀ c : Dev nD,
      r.2.mem (c.tc.loc main_v117_1) = A3 m c ∧ r.2.mem (c.tc.loc main_v114) = A4 m c ∧ r.2.mem (c.tc.loc main_v115) = A5 m c
      ∧ r.2.mem (c.tc.loc main_v117_0) = A6 m c ∧ r.2.mem (c.tc.loc main_v116) = A7 m c
      ∧ r.2.mem (c.tc.loc main_arg0) = m (c.tc.loc main_arg0) ∧ r.2.mem (c.tc.loc main_arg1) = m (c.tc.loc main_arg1)
      ∧ r.2.mem (c.tc.loc main_arg2) = m (c.tc.loc main_arg2) := by
  refine (θ_run defs _ _).mono (fun r h c => ?_) (run_main m ρ)
  exact ⟨((h c).1 3).trans (final_3 m c), ((h c).2 main_v114 (Pipeline.mem_restRefs_of main_v114 (by decide) (by decide))).trans (res_4 m c),
    ((h c).2 main_v115 (Pipeline.mem_restRefs_of main_v115 (by decide) (by decide))).trans (res_5 m c), ((h c).1 2).trans (final_2 m c),
    ((h c).2 main_v116 (Pipeline.mem_restRefs_of main_v116 (by decide) (by decide))).trans (res_7 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

end Cert.ReferenceIdeal.Val

end
-- ==== Proof.Agree.lean ====
/- The kernel's results and the reference's, from the same arguments, are the same arrays. -/
module

public import proofs.«01_k».proof.Proof.KernelRun
public import proofs.«01_k».proof.Proof.RefRun
public import proofs.«01_k».proof.Defs

@[expose] public section

set_option maxRecDepth 16384
noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)
  (h0 : m' ((c.tc : Thread ReferenceIdeal.nD ReferenceIdeal.τ).loc ReferenceIdeal.main_arg0) = m ((c.tc : Thread KernelIdeal.nD KernelIdeal.τ).loc KernelIdeal.main_arg0))
  (h1 : m' ((c.tc : Thread ReferenceIdeal.nD ReferenceIdeal.τ).loc ReferenceIdeal.main_arg1) = m ((c.tc : Thread KernelIdeal.nD KernelIdeal.τ).loc KernelIdeal.main_arg1))
  (h2 : m' ((c.tc : Thread ReferenceIdeal.nD ReferenceIdeal.τ).loc ReferenceIdeal.main_arg2) = m ((c.tc : Thread KernelIdeal.nD KernelIdeal.τ).loc KernelIdeal.main_arg2))

include h0 in
theorem Rw_eq (b : Fin 2) (T : Fin 8192) : ReferenceIdeal.Val.Rw m' c b T = KernelIdeal.Tile.Rw m c b T :=
  funext fun _ => congrFun h0 _

include h0 in
theorem Kw_eq (b : Fin 2) (T : Fin 8192) : ReferenceIdeal.Val.Kw m' c b T = KernelIdeal.Tile.Kw m c b T :=
  funext fun _ => congrFun h0 _

include h1 in
theorem Gw_eq : ReferenceIdeal.Val.Gw m' c = KernelIdeal.Tile.Gw m c :=
  funext fun _ => congrFun h1 _

include h2 in
theorem Pw_eq (b : Fin 2) : ReferenceIdeal.Val.Pw m' c b = KernelIdeal.Tile.Pw m c b := congrFun h2 _

include h0 h1 in
theorem A3_eq : ReferenceIdeal.Val.A3 m' c = KernelIdeal.Tile.A3 m c := by
  funext i
  exact congrArg₂ (fun (R γ : Fin 2048 → EReal) => Spec.code (Spec.q R γ (Spec.grp (i 1))) (Spec.norm R γ (i 1))) (Rw_eq m m' c h0 (i 0) (i 2)) (Gw_eq m m' c h1)

include h0 h1 in
theorem A4_eq : ReferenceIdeal.Val.A4 m' c = KernelIdeal.Tile.A4 m c := by
  funext i
  exact congrArg₂ (fun (R γ : Fin 2048 → EReal) => Spec.byte (Spec.word (Spec.q R γ ⟨(i 1).val / 4, by have : (i 1).val < 64 := (i 1).isLt; omega⟩)) ((i 1).val % 4)) (Rw_eq m m' c h0 (i 0) (i 2)) (Gw_eq m m' c h1)

include h0 h2 in
theorem A5_eq : ReferenceIdeal.Val.A5 m' c = KernelIdeal.Tile.A5 m c := by
  funext i
  exact congrArg₂ (fun (p : BitVec 32) (k : Fin 64 → EReal) => Spec.rope (p + BitVec.ofNat 32 (i 2).val) KernelIdeal.Tile.freqK k (i 1)) (Pw_eq m m' c h2 (i 0)) (Kw_eq m m' c h0 (i 0) (i 2))

include h0 h1 in
theorem A6_eq : ReferenceIdeal.Val.A6 m' c = KernelIdeal.Tile.A6 m c := by
  funext i
  exact congrArg₂ (fun (R γ : Fin 2048 → EReal) => Spec.code (Spec.q R γ (Spec.grp (i 2))) (Spec.norm R γ (i 2))) (Rw_eq m m' c h0 (i 0) (i 1)) (Gw_eq m m' c h1)

include h0 h1 in
theorem A7_eq : ReferenceIdeal.Val.A7 m' c = KernelIdeal.Tile.A7 m c := by
  funext i
  exact congrArg₂ (fun (R γ : Fin 2048 → EReal) => Ideal.ofBits .f32 (Spec.word (Spec.q R γ (i 1)))) (Rw_eq m m' c h0 (i 0) (i 2)) (Gw_eq m m' c h1)

end Cert.Agree

namespace Cert

open Idealize.ShloMosaic Idealize.ShloMosaic.TcCoe Idealize.SL.Sem

attribute [local instance] Cert.KernelIdeal.Gen.facts Cert.ReferenceIdeal.Gen.facts

/-- The algebraic claim. -/
theorem algebraic : algebraic_KernelIdeal_ReferenceIdeal (hKernelIdeal := Cert.KernelIdeal.Gen.facts) (hReferenceIdeal := Cert.ReferenceIdeal.Gen.facts) := by
  intro m g m' g' _ h
  refine ⟨KernelIdeal.Tile.A3 m, KernelIdeal.Tile.A4 m, KernelIdeal.Tile.A5 m, KernelIdeal.Tile.A6 m, KernelIdeal.Tile.A7 m, KernelIdeal.Tile.run m g, ?_⟩
  refine (θ_run _ _ _).mono (fun r k c => ?_) (ReferenceIdeal.Val.run m' g')
  obtain ⟨k3, k4, k5, k6, k7, ka⟩ := k c
  obtain ⟨h0, h1, h2⟩ := h c
  exact ⟨k3.trans (Agree.A3_eq m m' c h0 h1), k4.trans (Agree.A4_eq m m' c h0 h1), k5.trans (Agree.A5_eq m m' c h0 h2),
    k6.trans (Agree.A6_eq m m' c h0 h1), k7.trans (Agree.A7_eq m m' c h0 h1), ka⟩

end Cert

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem Cert.Kernel

/-- All five claims. -/
theorem claim : Cert.Claim := ⟨Cert.Kernel.Gen.facts, Cert.KernelIdeal.Gen.facts, Cert.ReferenceIdeal.Gen.facts,
  fun m ρ _ => Cert.Kernel.Gen.frame m ρ trivial, fun m ρ _ => Cert.KernelIdeal.Gen.frame m ρ trivial,
  fun m ρ _ => Cert.ReferenceIdeal.Gen.frame m ρ, trivial, Cert.algebraic⟩

end Cert.Proof

end
